-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_void_bag [hPre_no_void_bag : Cert.Pre_no_void_bag.Facts] (m : (ℓ : Loc Cert.KernelIdeal.nD Cert.KernelIdeal.τ Cert.KernelIdeal.sig) → Buf (Elt Ideal) ℓ) : Prop :=
  ∀ c : Dev Cert.KernelIdeal.nD,
    (Cert.Pre_no_void_bag.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_void_bag [hPre_no_void_bag : Cert.Pre_no_void_bag.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_void_bag.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_void_bag [hKernelIdeal : Cert.KernelIdeal.Facts] [hPre_no_void_bag : Cert.Pre_no_void_bag.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_void_bag m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_void_bag [hReferenceIdeal : Cert.ReferenceIdeal.Facts] [hPre_no_void_bag : Cert.Pre_no_void_bag.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_void_bag m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_void_bag [hKernelIdeal : Cert.KernelIdeal.Facts] [hReferenceIdeal : Cert.ReferenceIdeal.Facts] [hPre_no_void_bag : Cert.Pre_no_void_bag.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_void_bag m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_void_bag : Cert.Pre_no_void_bag.Facts),
    quiescent_Kernel (hKernel := hKernel)
    ∧ quiescent_KernelIdeal (hKernelIdeal := hKernelIdeal)
    ∧ quiescent_KernelIdeal_pre_no_void_bag (hKernelIdeal := hKernelIdeal) (hPre_no_void_bag := hPre_no_void_bag)
    ∧ quiescent_ReferenceIdeal (hReferenceIdeal := hReferenceIdeal)
    ∧ quiescent_ReferenceIdeal_pre_no_void_bag (hReferenceIdeal := hReferenceIdeal) (hPre_no_void_bag := hPre_no_void_bag)
    ∧ preserves_Kernel_KernelIdeal
    ∧ algebraic_KernelIdeal_ReferenceIdeal_pre_no_void_bag (hKernelIdeal := hKernelIdeal) (hReferenceIdeal := hReferenceIdeal) (hPre_no_void_bag := hPre_no_void_bag)
-- ==== Pre_no_void_bag.lean ====
abbrev S16x4096x512 : Shape := ⟨3, ![16, 4096, 512]⟩
abbrev S1024x1 : Shape := ⟨2, ![1024, 1]⟩
abbrev S1024x1x8 : Shape := ⟨3, ![1024, 1, 8]⟩
abbrev S1024x1x1 : Shape := ⟨3, ![1024, 1, 1]⟩
abbrev S512x1x8 : Shape := ⟨3, ![512, 1, 8]⟩
abbrev S_ : Shape := ⟨0, ![]⟩
abbrev S1x8 : Shape := ⟨2, ![1, 8]⟩
abbrev S1x1x8 : Shape := ⟨3, ![1, 1, 8]⟩
abbrev S16x4096x1x8 : Shape := ⟨4, ![16, 4096, 1, 8]⟩
abbrev S16x1x8 : Shape := ⟨3, ![16, 1, 8]⟩

class Facts : Prop where
  bcast_S1024x1_S1024x1x1_0_1 : S1024x1.BroadcastsInDim S1024x1x1 (![0, 1] : Fin 2 → Fin S1024x1x1.rank)
  bcast_S1024x1x1_S1024x1x8_0_1_2 : S1024x1x1.BroadcastsInDim S1024x1x8 (![0, 1, 2] : Fin 3 → Fin S1024x1x8.rank)
  slices_S1024x1x8_S512x1x8_0_0_0 : S1024x1x8.Slices ![0, 0, 0] S512x1x8
  slices_S1024x1x8_S512x1x8_512_0_0 : S1024x1x8.Slices ![512, 0, 0] S512x1x8
  reducesTo_S512x1x8_S1x8_d0 : S512x1x8.ReducesTo [0] S1x8
  h_S_ : 0 < S_.numel
  bcast_S1x8_S1x1x8_1_2 : S1x8.BroadcastsInDim S1x1x8 (![1, 2] : Fin 2 → Fin S1x1x8.rank)
  bcast_S_S1x1x8 : S_.BroadcastsInDim S1x1x8 (![] : Fin 0 → Fin S1x1x8.rank)
  bcast_S1x1x8_S512x1x8_0_1_2 : S1x1x8.BroadcastsInDim S512x1x8 (![0, 1, 2] : Fin 3 → Fin S512x1x8.rank)
  reducesTo_S16x4096x1x8_S16x1x8_d1 : S16x4096x1x8.ReducesTo [1] S16x1x8
  bcast_S_S16x1x8 : S_.BroadcastsInDim S16x1x8 (![] : Fin 0 → Fin S16x1x8.rank)
  reducesTo_S16x1x8_S_d0_1_2 : S16x1x8.ReducesTo [0, 1, 2] S_
  dot_S16x4096x512_S512x1x8_S16x4096x1x8_2_0_01_12_n_n_wf : DotDims.WF S16x4096x512 S512x1x8 S16x4096x1x8 [2] [0] [0, 1] [1, 2] [] []

variable [Facts]

def dot_S16x4096x512_S512x1x8_S16x4096x1x8_2_0_01_12_n_n : DotDims S16x4096x512 S512x1x8 S16x4096x1x8 where
  lhsContracting := [2]
  rhsContracting := [0]
  lhsNonContracting := [0, 1]
  rhsNonContracting := [1, 2]
  lhsBatch := []
  rhsBatch := []
  wf := dot_S16x4096x512_S512x1x8_S16x4096x1x8_2_0_01_12_n_n_wf
def fn_part1 {F : FTy → Type} [FloatOps F] (main_v18 : FVec F S16x4096x1x8 .f32) (main_v20 : FVec F S16x1x8 .f32) : IVec S_ 1 :=
  let main_cst_2 : FVec F S_ .f32 := constant S_ .f32 0x7F800000#32
  let main_v21 : FVec F S16x1x8 .f32 := broadcastInDim S16x1x8 ![] bcast_S_S16x1x8 main_cst_2
  let main_v22 : IVec S16x1x8 1 := cmpf .olt main_v20 main_v21
  let main_v23 : FVec F S16x4096x1x8 .f32 := Host.absf main_v18
  let main_cst_3 : FVec F S_ .f32 := constant S_ .f32 0xFF800000#32
  let main_v24 : FVec F S16x1x8 .f32 := (fun x v => Host.reduce FloatOps.maximumf x v reducesTo_S16x4096x1x8_S16x1x8_d1 h_S_) main_v23 main_cst_3
  let main_cst_4 : FVec F S_ .f32 := constant S_ .f32 0x00000000#32
  let main_v25 : FVec F S16x1x8 .f32 := broadcastInDim S16x1x8 ![] bcast_S_S16x1x8 main_cst_4
  let main_v26 : IVec S16x1x8 1 := cmpf .ogt main_v24 main_v25
  let main_v27 : IVec S16x1x8 1 := ori main_v22 main_v26
  let main_c : IVec S_ 1 := constantI S_ 1 1#1
  let main_v28 : IVec S_ 1 := (fun x v => Host.reduce IntOp.andi x v reducesTo_S16x1x8_S_d0_1_2 h_S_) main_v27 main_c
  main_v28

def fn {F : FTy → Type} [FloatOps F] (main_arg0 : FVec F S16x4096x512 .f32) (main_arg1 : FVec F S1024x1 .f32) (main_arg2 : FVec F S1024x1 .f32) (main_arg3 : FVec F S1024x1x8 .f32) : IVec S_ 1 :=
  let main_v0 : FVec F S1024x1x1 .f32 := broadcastInDim S1024x1x1 ![0, 1] bcast_S1024x1_S1024x1x1_0_1 main_arg1
  let main_v1 : FVec F S1024x1 .f32 := Host.exp main_arg2
  let main_v2 : FVec F S1024x1x1 .f32 := broadcastInDim S1024x1x1 ![0, 1] bcast_S1024x1_S1024x1x1_0_1 main_v1
  let main_v3 : FVec F S1024x1x8 .f32 := broadcastInDim S1024x1x8 ![0, 1, 2] bcast_S1024x1x1_S1024x1x8_0_1_2 main_v2
  let main_v4 : FVec F S1024x1x8 .f32 := mulf main_v3 main_arg3
  let main_v5 : FVec F S1024x1x8 .f32 := broadcastInDim S1024x1x8 ![0, 1, 2] bcast_S1024x1x1_S1024x1x8_0_1_2 main_v0
  let main_v6 : FVec F S1024x1x8 .f32 := addf main_v5 main_v4
  let main_v7 : FVec F S512x1x8 .f32 := (extractStridedSlice S512x1x8 ![0, 0, 0] · slices_S1024x1x8_S512x1x8_0_0_0) main_v6
  let main_v8 : FVec F S512x1x8 .f32 := (extractStridedSlice S512x1x8 ![512, 0, 0] · slices_S1024x1x8_S512x1x8_512_0_0) main_v6
  let main_v9 : FVec F S512x1x8 .f32 := mulf main_v8 main_v8
  let main_cst : FVec F S_ .f32 := constant S_ .f32 0x00000000#32
  let main_v10 : FVec F S1x8 .f32 := (fun x v => Host.reduceAdd x v reducesTo_S512x1x8_S1x8_d0 h_S_) main_v9 main_cst
  let main_v11 : FVec F S1x1x8 .f32 := broadcastInDim S1x1x8 ![1, 2] bcast_S1x8_S1x1x8_1_2 main_v10
  let main_cst_0 : FVec F S_ .f32 := constant S_ .f32 0x44000000#32
  let main_v12 : FVec F S1x1x8 .f32 := broadcastInDim S1x1x8 ![] bcast_S_S1x1x8 main_cst_0
  let main_v13 : FVec F S1x1x8 .f32 := Host.divf main_v11 main_v12
  let main_v14 : FVec F S1x1x8 .f32 := Host.sqrt main_v13
  let main_v15 : FVec F S512x1x8 .f32 := broadcastInDim S512x1x8 ![0, 1, 2] bcast_S1x1x8_S512x1x8_0_1_2 main_v14
  let main_v16 : FVec F S512x1x8 .f32 := Host.divf main_v8 main_v15
  let main_v17 : FVec F S16x4096x1x8 .f32 := (fun l r => Host.dotGeneral dot_S16x4096x512_S512x1x8_S16x4096x1x8_2_0_01_12_n_n none l r) main_arg0 main_v7
  let main_v18 : FVec F S16x4096x1x8 .f32 := (fun l r => Host.dotGeneral dot_S16x4096x512_S512x1x8_S16x4096x1x8_2_0_01_12_n_n none l r) main_arg0 main_v16
  let main_cst_1 : FVec F S_ .f32 := constant S_ .f32 0xFF800000#32
  let main_v19 : FVec F S16x1x8 .f32 := (fun x v => Host.reduce FloatOps.maximumf x v reducesTo_S16x4096x1x8_S16x1x8_d1 h_S_) main_v17 main_cst_1
  let main_v20 : FVec F S16x1x8 .f32 := Host.absf main_v19
  fn_part1 (F := F) main_v18 main_v20
-- ==== Kernel.lean ====
abbrev S16x4096x512 : Shape := ⟨3, ![16, 4096, 512]⟩
abbrev S1024x1 : Shape := ⟨2, ![1024, 1]⟩
abbrev S1024x1x8 : Shape := ⟨3, ![1024, 1, 8]⟩
abbrev S1024x8 : Shape := ⟨2, ![1024, 8]⟩
abbrev S16x512x4096 : Shape := ⟨3, ![16, 512, 4096]⟩
abbrev S16x8 : Shape := ⟨2, ![16, 8]⟩
abbrev S1x512x4096 : Shape := ⟨3, ![1, 512, 4096]⟩
abbrev S4096x128 : Shape := ⟨2, ![4096, 128]⟩
abbrev S16x16 : Shape := ⟨2, ![16, 16]⟩
abbrev S512x8 : Shape := ⟨2, ![512, 8]⟩
abbrev S8 : Shape := ⟨1, ![8]⟩
abbrev S1x8 : Shape := ⟨2, ![1, 8]⟩
abbrev S512x16 : Shape := ⟨2, ![512, 16]⟩
abbrev S4096x16 : Shape := ⟨2, ![4096, 16]⟩
abbrev S512x4096 : Shape := ⟨2, ![512, 4096]⟩
abbrev S512x128 : Shape := ⟨2, ![512, 128]⟩
abbrev S128 : Shape := ⟨1, ![128]⟩
abbrev S1x128 : Shape := ⟨2, ![1, 128]⟩
abbrev S1x16 : Shape := ⟨2, ![1, 16]⟩
abbrev S512x120 : Shape := ⟨2, ![512, 120]⟩
abbrev S16 : Shape := ⟨1, ![16]⟩
abbrev S16x1x8 : Shape := ⟨3, ![16, 1, 8]⟩

abbrev nBuf : Space → Nat
  | .hbm => 8
  | .vmem => 8
  | .smem => 0
  | _ => 0

abbrev bufTy : (tb : Table) → Fin (tcTables nBuf tb) → BufTy
  | .hbm, ⟨0, _⟩ => ⟨S16x4096x512, .f32⟩
  | .hbm, ⟨1, _⟩ => ⟨S1024x1, .f32⟩
  | .hbm, ⟨2, _⟩ => ⟨S1024x1, .f32⟩
  | .hbm, ⟨3, _⟩ => ⟨S1024x1x8, .f32⟩
  | .hbm, ⟨4, _⟩ => ⟨S1024x8, .f32⟩
  | .hbm, ⟨5, _⟩ => ⟨S16x512x4096, .f32⟩
  | .hbm, ⟨6, _⟩ => ⟨S16x8, .f32⟩
  | .hbm, ⟨7, _⟩ => ⟨S16x1x8, .f32⟩
  | .local _ .vmem, ⟨0, _⟩ => ⟨S1024x1, .f32⟩
  | .local _ .vmem, ⟨1, _⟩ => ⟨S1024x1, .f32⟩
  | .local _ .vmem, ⟨2, _⟩ => ⟨S1024x8, .f32⟩
  | .local _ .vmem, ⟨3, _⟩ => ⟨S1x512x4096, .f32⟩
  | .local _ .vmem, ⟨4, _⟩ => ⟨S1x512x4096, .f32⟩
  | .local _ .vmem, ⟨5, _⟩ => ⟨S16x8, .f32⟩
  | .local _ .vmem, ⟨6, _⟩ => ⟨S4096x128, .f32⟩
  | .local _ .vmem, ⟨7, _⟩ => ⟨S16x16, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v86 : Index := Scalar.indexCast arg0
  let c0_16 : Index := 0#32
  ![v86.toNat, 0]
def k0_cond2 (i : grid0.Coords) : BitVec 1 :=
  let arg0 : BitVec 32 := BitVec.ofNat 32 (i 0).val
  let c15_i32 : BitVec 32 := 15#32
  let v90 : BitVec 1 := Scalar.cmpi .eq arg0 c15_i32
  let v91 : BitVec 32 := Scalar.extui v90
  let c0_i32_17 : BitVec 32 := 0#32
  let v92 : BitVec 1 := Scalar.cmpi .ne v91 c0_i32_17
  v92

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x4096x512 : Shape := ⟨3, ![16, 4096, 512]⟩
abbrev S1024x1 : Shape := ⟨2, ![1024, 1]⟩
abbrev S1024x1x8 : Shape := ⟨3, ![1024, 1, 8]⟩
abbrev S1024x1x1 : Shape := ⟨3, ![1024, 1, 1]⟩
abbrev S512x1x8 : Shape := ⟨3, ![512, 1, 8]⟩
abbrev S_ : Shape := ⟨0, ![]⟩
abbrev S1x8 : Shape := ⟨2, ![1, 8]⟩
abbrev S1x1x8 : Shape := ⟨3, ![1, 1, 8]⟩
abbrev S16x4096x1x8 : Shape := ⟨4, ![16, 4096, 1, 8]⟩
abbrev S16x1x8 : Shape := ⟨3, ![16, 1, 8]⟩
abbrev S16x1x1x8 : Shape := ⟨4, ![16, 1, 1, 8]⟩

abbrev nBuf : Space → Nat
  | .hbm => 77
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S1024x1, .f32⟩
  | .hbm, ⟨2, _⟩ => ⟨S1024x1, .f32⟩
  | .hbm, ⟨3, _⟩ => ⟨S1024x1x8, .f32⟩
  | .hbm, ⟨4, _⟩ => ⟨S1024x1x1, .f32⟩
  | .hbm, ⟨5, _⟩ => ⟨S1024x1, .f32⟩
  | .hbm, ⟨6, _⟩ => ⟨S1024x1x1, .f32⟩
  | .hbm, ⟨7, _⟩ => ⟨S1024x1x8, .f32⟩
  | .hbm, ⟨8, _⟩ => ⟨S1024x1x8, .f32⟩
  | .hbm, ⟨9, _⟩ => ⟨S1024x1x8, .f32⟩
  | .hbm, ⟨10, _⟩ => ⟨S1024x1x8, .f32⟩
  | .hbm, ⟨11, _⟩ => ⟨S512x1x8, .f32⟩
  | .hbm, ⟨12, _⟩ => ⟨S512x1x8, .f32⟩
  | .hbm, ⟨13, _⟩ => ⟨S512x1x8, .f32⟩
  | .hbm, ⟨14, _⟩ => ⟨S_, .f32⟩
  | .hbm, ⟨15, _⟩ => ⟨S1x8, .f32⟩
  | .hbm, ⟨16, _⟩ => ⟨S1x1x8, .f32⟩
  | .hbm, ⟨17, _⟩ => ⟨S_, .f32⟩
  | .hbm, ⟨18, _⟩ => ⟨S1x1x8, .f32⟩
  | .hbm, ⟨19, _⟩ => ⟨S1x1x8, .f32⟩
  | .hbm, ⟨20, _⟩ => ⟨S1x1x8, .f32⟩
  | .hbm, ⟨21, _⟩ => ⟨S512x1x8, .f32⟩
  | .hbm, ⟨22, _⟩ => ⟨S512x1x8, .f32⟩
  | .hbm, ⟨23, _⟩ => ⟨S16x4096x1x8, .f32⟩
  | .hbm, ⟨24, _⟩ => ⟨S_, .f32⟩
  | .hbm, ⟨25, _⟩ => ⟨S16x1x8, .f32⟩
  | .hbm, ⟨26, _⟩ => ⟨S_, .f32⟩
  | .hbm, ⟨27, _⟩ => ⟨S16x1x8, .f32⟩
  | .hbm, ⟨28, _⟩ => ⟨S16x1x8, .f32⟩
  | .hbm, ⟨29, _⟩ => ⟨S16x1x1x8, .f32⟩
  | .hbm, ⟨30, _⟩ => ⟨S16x4096x1x8, .f32⟩
  | .hbm, ⟨31, _⟩ => ⟨S16x4096x1x8, .f32⟩
  | .hbm, ⟨32, _⟩ => ⟨S16x4096x1x8, .f32⟩
  | .hbm, ⟨33, _⟩ => ⟨S_, .f32⟩
  | .hbm, ⟨34, _⟩ => ⟨S16x1x8, .f32⟩
  | .hbm, ⟨35, _⟩ => ⟨S16x1x1x8, .f32⟩
  | .hbm, ⟨36, _⟩ => ⟨S16x4096x1x8, .f32⟩
  | .hbm, ⟨37, _⟩ => ⟨S16x4096x1x8, .f32⟩
  | .hbm, ⟨38, _⟩ => ⟨S16x4096x1x8, .f32⟩
  | .hbm, ⟨39, _⟩ => ⟨S16x1x8, .f32⟩
  | .hbm, ⟨40, _⟩ => ⟨S_, .f32⟩
  | .hbm, ⟨41, _⟩ => ⟨S1x8, .f32⟩
  | .hbm, ⟨42, _⟩ => ⟨S_, .f32⟩
  | .hbm, ⟨43, _⟩ => ⟨S1x8, .f32⟩
  | .hbm, ⟨44, _⟩ => ⟨S1x8, .f32⟩
  | .hbm, ⟨45, _⟩ => ⟨S_, .i32⟩
  | .hbm, ⟨46, _⟩ => ⟨S_, .f32⟩
  | .hbm, ⟨47, _⟩ => ⟨S1x8, .f32⟩
  | .hbm, ⟨48, _⟩ => ⟨S1x1x8, .f32⟩
  | .hbm, ⟨49, _⟩ => ⟨S_, .f32⟩
  | .hbm, ⟨50, _⟩ => ⟨S1x1x8, .f32⟩
  | .hbm, ⟨51, _⟩ => ⟨S1x1x8, .f32⟩
  | .hbm, ⟨52, _⟩ => ⟨S16x1x8, .f32⟩
  | .hbm, ⟨53, _⟩ => ⟨S16x1x8, .f32⟩
  | .hbm, ⟨54, _⟩ => ⟨S16x1x8, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x8, .f32⟩
  | .hbm, ⟨60, _⟩ => ⟨S1x8, .f32⟩
  | .hbm, ⟨61, _⟩ => ⟨S1x8, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S1x8, .f32⟩
  | .hbm, ⟨67, _⟩ => ⟨S1x8, .f32⟩
  | .hbm, ⟨68, _⟩ => ⟨S1x8, .f32⟩
  | .hbm, ⟨69, _⟩ => ⟨S1x1x8, .f32⟩
  | .hbm, ⟨70, _⟩ => ⟨S16x1x8, .f32⟩
  | .hbm, ⟨71, _⟩ => ⟨S16x1x8, .f32⟩
  | .hbm, ⟨72, _⟩ => ⟨S16x1x8, .f32⟩
  | .hbm, ⟨73, _⟩ => ⟨S16x1x8, .f32⟩
  | .hbm, ⟨74, _⟩ => ⟨S1x1x8, .f32⟩
  | .hbm, ⟨75, _⟩ => ⟨S16x1x8, .f32⟩
  | .hbm, ⟨76, _⟩ => ⟨S16x1x8, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_cst_0 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_cst_1 : Ref sig .tc := ⟨.hbm, 56, rfl⟩
abbrev main_call0_call0_v8 : Ref sig .tc := ⟨.hbm, 57, rfl⟩
abbrev main_call0_call0_cst_2 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_cst_3 : Ref sig .tc := ⟨.hbm, 62, rfl⟩
abbrev main_call0_call0_v12 : Ref sig .tc := ⟨.hbm, 63, rfl⟩
abbrev main_call0_call0_cst_4 : Ref sig .tc := ⟨.hbm, 64, rfl⟩
abbrev main_call0_call0_call0_v0 : Ref sig .tc := ⟨.hbm, 65, rfl⟩
abbrev main_call0_call0_call0_v1 : Ref sig .tc := ⟨.hbm, 66, rfl⟩
abbrev main_call0_v0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]
-- ==== Proof.Body.lean ====
/- One grid point of the kernel as an action on its staging buffers and scratch: what the body stores, in each of the
   three cases of its two conditionals (first point, last point, any point between). Stated for any float values. -/
module

public import proofs.«01_k».proof.Proof.Gen.KernelIdeal.Frame
public import proofs.«01_k».proof.Proof.Gen.KernelIdeal.Skeleton
public import Idealize.ShloMosaic.Lib.VecWindow
public import Idealize.ShloMosaic.Lib.ValueIdx

@[expose] public section

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The block-diagonal weight matrix the first point builds from the three parameter arrays. -/
def weights (x0 x1 : Vec F S1024x1 .f32) (x2 : Vec F S1024x8 .f32) : Vec F S4096x128 .f32 :=
  k0_pay11 (k0_pay1 (k0_pay7 x0 x1 x2) (k0_pay10 x0 x1 x2)) k0_pay2 k0_pay3 k0_pay4 k0_pay5 0#32

/-- The row of sixteen pooled values a point computes from its block of data and the weight matrix. -/
def pooled (x3 : Vec F S1x512x4096 .f32) (w : Vec F S4096x128 .f32) : Vec F S1x16 .f32 :=
  k0_pay15 (k0_pay12 x3 w) (k0_pay13 x3 w) (k0_pay14 x3 w)

/-- The table `d` with row `n` replaced by `r`. -/
def setRow (n : ℕ) (d : Vec F S16x16 .f32) (r : Vec F S1x16 .f32) : Vec F S16x16 .f32 :=
  fun y => if (y 0).val = n then r (ix2 0 (y 1 : Fin 16)) else d y

/-- The result the last point computes from the finished table of pooled rows. -/
def final (x0 x1 : Vec F S1024x1 .f32) (x2 : Vec F S1024x8 .f32) (d : Vec F S16x16 .f32) : Vec F S16x8 .f32 :=
  k0_pay16 (k0_pay9 x0 x1 x2) d

/-- The first conditional of the body: is this the first point? -/
abbrev isFirst (i : grid0.Coords) : Prop :=
  (Scalar.cmpi .ne (Scalar.extui (Scalar.cmpi .eq (BitVec.ofNat 32 (i 0).val) 0#32)) 0#32) = 1#1

/-- The second conditional of the body: is this the last point? -/
abbrev isLast (i : grid0.Coords) : Prop := k0_cond2 i = 1#1

/-- Row `n` of the table after `setRow n`. -/
theorem setRow_self (d : Vec F S16x16 .f32) (r : Vec F S1x16 .f32) (n j : Fin 16) :
    setRow n.val d r (ix2 n j) = r (ix2 0 j) := if_pos rfl

/-- Any other row is untouched. -/
theorem setRow_of_ne (n : ℕ) (d : Vec F S16x16 .f32) (r : Vec F S1x16 .f32) (k j : Fin 16) (h : k.val ≠ n) :
    setRow n d r (ix2 k j) = d (ix2 k j) := if_neg h

/-- The store of the point's row starts at row `i 0`, lane 0. -/
theorem rowOffset (i : grid0.Coords) : k0_off1 i = ![(i 0).val, 0] := by
  have h : (i 0).val < 16 := (i 0).isLt
  unfold k0_off1
  simp only [Scalar.indexCast, BitVec.toNat_ofNat, Nat.mod_eq_of_lt (show (i 0).val < 2 ^ 32 by omega)]

/-- A load of a whole buffer reads its contents. -/
theorem load_whole {s : Shape} {e : EltTy} {v : View sig .tc .vmem s e} {f : v.ty.Contents (Elt F)} {x : s.Idx → Elt F e}
    {off : Fin s.rank → ℕ} (inb : ∀ a, off a + s.size a ≤ s.size a) (h : v.read (Elt F) f = x) :
    v.readAt (Elt F) (Rect.unit off s.size inb).toLoadRect f = x := (View.readAt_full v f inb).trans h

/-- Storing a row at the point's offset replaces that row of the table. -/
theorem read_store_row (arg7 : Memref sig .tc .vmem S16x16 .f32) (harg7 : arg7.IsWhole) (i : grid0.Coords)
    (y : Vec F S16x16 .f32) (r : Vec F S1x16 .f32) :
    arg7.view.read (Elt F) (arg7.view.writes (Elt F) (harg7.unread y)
      [⟨Rect.unit (k0_off1 i) S1x16.size (k0_off1_inb i), r⟩]) = setRow (i 0).val y r := by
  funext z
  have h0 : (z 0).val < 16 := (z 0).isLt
  have h1 : (z 1).val < 16 := (z 1).isLt
  by_cases h : (z 0).val = (i 0).val
  · refine (View.read_writes_cons_unit_of_mem _ _ _ _ _ z (ix2 0 (z 1 : Fin 16)) (rowOffset i) ?_).trans (if_pos h).symm
    intro a; fin_cases a
    · exact h
    · exact (Nat.zero_add _).symm
  · refine (View.read_writes_cons_unit_of_not_mem _ _ _ _ _ z (rowOffset i) 0 ?_).trans ?_
    · show (z 0).val < (i 0).val ∨ (i 0).val + 1 ≤ (z 0).val
      omega
    · rw [View.writes_nil, harg7.read_unread]; exact (if_neg h).symm

set_option maxHeartbeats 1000000 in
/-- The first point: it builds the weight matrix and stores its row of pooled values; the result buffer is untouched. -/
theorem run_first (c : Dev nD) (i : grid0.Coords)
    (arg1 : Memref sig .tc .vmem S1024x1 .f32) (harg1 : arg1.IsWhole) (arg2 : Memref sig .tc .vmem S1024x1 .f32) (harg2 : arg2.IsWhole)
    (arg3 : Memref sig .tc .vmem S1024x8 .f32) (harg3 : arg3.IsWhole) (arg4 : Memref sig .tc .vmem S1x512x4096 .f32) (harg4 : arg4.IsWhole)
    (arg5 : Memref sig .tc .vmem S16x8 .f32) (harg5 : arg5.IsWhole) (arg6 : Memref sig .tc .vmem S4096x128 .f32) (harg6 : arg6.IsWhole)
    (arg7 : Memref sig .tc .vmem S16x16 .f32) (harg7 : arg7.IsWhole) (hc0 : isFirst i) (hc1 : ¬isLast i)
    (x0 x1 : Vec F S1024x1 .f32) (x2 : Vec F S1024x8 .f32) (x3 : Vec F S1x512x4096 .f32) (y : Vec F S16x16 .f32) (o : Vec F S16x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare o
        ∗ (∃ d, owns (c : Thread nD τ) arg6 fullShare d) ∗ owns (c : Thread nD τ) arg7 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare o
            ∗ owns (c : Thread nD τ) arg6 fullShare (weights x0 x1 x2) ∗ owns (c : Thread nD τ) arg7 fullShare (setRow (i 0).val y (pooled x3 (weights x0 x1 x2)))) -∗ K ⟨⟩))
      ⊢ wp frame (wpE (defs₀ (F := F)) Variants.none c none) E
          (cc0__mixmil_kernel i arg1 harg1 arg2 harg2 arg3 harg3 arg4 harg4 arg5 harg5 arg6 harg6 arg7 harg7) K := by
  simp only [cc0__mixmil_kernel_eq_skeleton]; unfold cc0__mixmil_kernel_skel
  simp only [k0_part3_eq_skeleton, k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  obtain rfl := harg1.eq_unread hf0; obtain rfl := harg2.eq_unread hf1; obtain rfl := harg3.eq_unread hf2
  obtain rfl := harg4.eq_unread hf3; obtain rfl := harg7.eq_unread hf7
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact hf4
                  iexact H4
  isplitl [H6]
  · iexists _; isplitr; swap; · iexact H6
    ipureintro
    sl_unfold_words
    rw [View.read_writes_full, load_whole _ hf0, load_whole _ hf1, load_whole _ hf2]
    rfl
  iexists _; isplitr; swap; · iexact H7
  ipureintro
  sl_unfold_words
  rw [View.readCov_full, load_whole _ hf0, load_whole _ hf1, load_whole _ hf2, load_whole _ hf3]
  exact read_store_row arg7 harg7 i y (pooled x3 (weights x0 x1 x2))

set_option maxHeartbeats 1000000 in
/-- A point between: it stores its row of pooled values and nothing else. -/
theorem run_middle (c : Dev nD) (i : grid0.Coords)
    (arg1 : Memref sig .tc .vmem S1024x1 .f32) (harg1 : arg1.IsWhole) (arg2 : Memref sig .tc .vmem S1024x1 .f32) (harg2 : arg2.IsWhole)
    (arg3 : Memref sig .tc .vmem S1024x8 .f32) (harg3 : arg3.IsWhole) (arg4 : Memref sig .tc .vmem S1x512x4096 .f32) (harg4 : arg4.IsWhole)
    (arg5 : Memref sig .tc .vmem S16x8 .f32) (harg5 : arg5.IsWhole) (arg6 : Memref sig .tc .vmem S4096x128 .f32) (harg6 : arg6.IsWhole)
    (arg7 : Memref sig .tc .vmem S16x16 .f32) (harg7 : arg7.IsWhole) (hc0 : ¬isFirst i) (hc1 : ¬isLast i)
    (x0 x1 : Vec F S1024x1 .f32) (x2 : Vec F S1024x8 .f32) (x3 : Vec F S1x512x4096 .f32) (w : Vec F S4096x128 .f32) (y : Vec F S16x16 .f32) (o : Vec F S16x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare o
        ∗ owns (c : Thread nD τ) arg6 fullShare w ∗ owns (c : Thread nD τ) arg7 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare o
            ∗ owns (c : Thread nD τ) arg6 fullShare (w) ∗ owns (c : Thread nD τ) arg7 fullShare (setRow (i 0).val y (pooled x3 w))) -∗ K ⟨⟩))
      ⊢ wp frame (wpE (defs₀ (F := F)) Variants.none c none) E
          (cc0__mixmil_kernel i arg1 harg1 arg2 harg2 arg3 harg3 arg4 harg4 arg5 harg5 arg6 harg6 arg7 harg7) K := by
  simp only [cc0__mixmil_kernel_eq_skeleton]; unfold cc0__mixmil_kernel_skel
  simp only [k0_part3_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg7.eq_unread hf7
  obtain rfl := harg6.eq_unread hf6
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact hf4
                  iexact H4
  isplitl [H6]; · iexists _; isplitr; · ipureintro; exact harg6.read_unread _
                  iexact H6
  iexists _; isplitr; swap; · iexact H7
  ipureintro
  sl_unfold_words
  rw [load_whole _ hf3, load_whole _ hf6]
  exact read_store_row arg7 harg7 i y (pooled x3 w)

set_option maxHeartbeats 1000000 in
/-- The last point: its row goes into the table, and the result is computed from the whole table. -/
theorem run_last (c : Dev nD) (i : grid0.Coords)
    (arg1 : Memref sig .tc .vmem S1024x1 .f32) (harg1 : arg1.IsWhole) (arg2 : Memref sig .tc .vmem S1024x1 .f32) (harg2 : arg2.IsWhole)
    (arg3 : Memref sig .tc .vmem S1024x8 .f32) (harg3 : arg3.IsWhole) (arg4 : Memref sig .tc .vmem S1x512x4096 .f32) (harg4 : arg4.IsWhole)
    (arg5 : Memref sig .tc .vmem S16x8 .f32) (harg5 : arg5.IsWhole) (arg6 : Memref sig .tc .vmem S4096x128 .f32) (harg6 : arg6.IsWhole)
    (arg7 : Memref sig .tc .vmem S16x16 .f32) (harg7 : arg7.IsWhole) (hc0 : ¬isFirst i) (hc1 : isLast i)
    (x0 x1 : Vec F S1024x1 .f32) (x2 : Vec F S1024x8 .f32) (x3 : Vec F S1x512x4096 .f32) (w : Vec F S4096x128 .f32) (y : Vec F S16x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare w ∗ owns (c : Thread nD τ) arg7 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (final x0 x1 x2 (setRow (i 0).val y (pooled x3 w)))
            ∗ owns (c : Thread nD τ) arg6 fullShare (w) ∗ owns (c : Thread nD τ) arg7 fullShare (setRow (i 0).val y (pooled x3 w))) -∗ K ⟨⟩))
      ⊢ wp frame (wpE (defs₀ (F := F)) Variants.none c none) E
          (cc0__mixmil_kernel i arg1 harg1 arg2 harg2 arg3 harg3 arg4 harg4 arg5 harg5 arg6 harg6 arg7 harg7) K := by
  simp only [cc0__mixmil_kernel_eq_skeleton]; unfold cc0__mixmil_kernel_skel
  simp only [k0_part3_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg7.eq_unread hf7
  obtain rfl := harg6.eq_unread hf6
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]
  · iexists _; isplitr; swap; · iexact H4
    ipureintro
    sl_unfold_words
    rw [View.read_writes_full, load_whole _ hf0, load_whole _ hf1, load_whole _ hf2, load_whole _ hf3, load_whole _ hf6,
      View.readAt_full]
    exact congrArg (k0_pay16 (k0_pay9 x0 x1 x2)) (read_store_row arg7 harg7 i y (pooled x3 w))
  isplitl [H6]; · iexists _; isplitr; · ipureintro; exact harg6.read_unread _
                  iexact H6
  iexists _; isplitr; swap; · iexact H7
  ipureintro
  sl_unfold_words
  rw [load_whole _ hf3, load_whole _ hf6]
  exact read_store_row arg7 harg7 i y (pooled x3 w)

end Cert.KernelIdeal.Body

end
-- ==== Proof.Region.lean ====
/- The kernel's pipeline over its sixteen grid points: what the two scratch buffers hold between points, the body's
   obligation at every point, the run of the whole program and the frame. Stated for any float values. -/
module

public import proofs.«01_k».proof.Proof.Body
public import Idealize.ShloMosaic.Lib.Claim

@[expose] public section

set_option maxRecDepth 16384

noncomputable section

namespace Cert.KernelIdeal.Region

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point that handles row `n` of the batch. -/
def pt (n : Fin 16) : Fin cfg0.N := ⟨n.val, by rw [show cfg0.N = 16 from N_0]; exact n.isLt⟩

/-! ## Which case a point is in -/

/-- A point's coordinate is its position. -/
theorem coord (t : Fin cfg0.N) : (grid0.coords t 0).val = t.val := by
  have ht : t.val < 16 := Nat.lt_of_lt_of_eq t.isLt N_0
  have e : (grid0.coords (t : Fin grid0.N) 0).val = t.val / 1 % 16 := Pipeline.Grid.coords_val t 0 (by decide) rfl
  rw [e]; omega

/-- The first conditional is taken at the first point only. -/
theorem isFirst_iff (t : Fin cfg0.N) : isFirst (grid0.coords t) ↔ t.val = 0 := by
  have ht : t.val < 16 := Nat.lt_of_lt_of_eq t.isLt N_0
  have e0 := coord t
  simp only [isFirst, e0]
  word_cmp

/-- The second conditional is taken at the last point only. -/
theorem isLast_iff (t : Fin cfg0.N) : isLast (grid0.coords t) ↔ t.val = 15 := by
  have ht : t.val < 16 := Nat.lt_of_lt_of_eq t.isLt N_0
  have e0 := coord t
  simp only [isLast, k0_cond2, e0]
  word_cmp

/-! ## What the scratch buffers hold -/

/-- The three parameter windows' block is the same at every point. -/
theorem iblk_0 (c : Dev nD) (t : Fin cfg0.N) : iblk m c 0 t = iblk m c 0 (pt 0) := rfl
theorem iblk_1 (c : Dev nD) (t : Fin cfg0.N) : iblk m c 1 t = iblk m c 1 (pt 0) := rfl
theorem iblk_2 (c : Dev nD) (t : Fin cfg0.N) : iblk m c 2 t = iblk m c 2 (pt 0) := rfl

/-- The weight matrix the first point leaves in the first scratch buffer. -/
def W (c : Dev nD) : Vec F S4096x128 .f32 := weights (iblk m c 0 (pt 0)) (iblk m c 1 (pt 0)) (iblk m c 2 (pt 0))

/-- The full table of pooled values: row `n` is computed at point `n`. -/
def table (c : Dev nD) : Vec F S16x16 .f32 :=
  fun y => pooled (iblk m c 3 (pt (y 0 : Fin 16))) (W m c) (ix2 0 (y 1 : Fin 16))

/-- What the last point stores in the output window. -/
def result (c : Dev nD) : Vec F S16x8 .f32 :=
  final (iblk m c 0 (pt 0)) (iblk m c 1 (pt 0)) (iblk m c 2 (pt 0)) (table m c)

/-- The first `n` rows of `d` are the table's. -/
def Filled (c : Dev nD) (n : ℕ) (d : Vec F S16x16 .f32) : Prop :=
  ∀ k j : Fin 16, k.val < n → d (ix2 k j) = table m c (ix2 k j)

/-- Any table has its first zero rows right. -/
theorem filled_zero (c : Dev nD) (d : Vec F S16x16 .f32) : Filled m c 0 d := fun _ _ h => absurd h (Nat.not_lt_zero _)

/-- A point's row stored at its position extends the right rows by one. -/
theorem filled_succ (c : Dev nD) (t : Fin cfg0.N) (d : Vec F S16x16 .f32) (h : Filled m c t.val d) :
    Filled m c (t.val + 1) (setRow (grid0.coords t 0).val d (pooled (iblk m c 3 t) (W m c))) := by
  intro k j hk
  rw [coord t]
  by_cases e : k.val = t.val
  · have et : t = pt k := Fin.ext e.symm
    rw [← e, setRow_self, et]; rfl
  · rw [setRow_of_ne _ _ _ _ _ e]
    exact h k j (by omega)

/-- With all sixteen rows right the contents are the table. -/
theorem filled_all (c : Dev nD) (d : Vec F S16x16 .f32) (h : Filled m c 16 d) : d = table m c := by
  funext y
  rw [eq_ix2 y]
  exact h _ _ (y 0).isLt

/-- The scratch buffers as the body's operands. -/
abbrev scW : Memref sig .tc .vmem S4096x128 .f32 := Memref.whole cc0_scratch0
abbrev scT : Memref sig .tc .vmem S16x16 .f32 := Memref.whole cc0_scratch1

/-- The region's invariant at its start: both scratch buffers at anything, the generator register at some state. -/
theorem start_eq (c : Dev nD) : (Pipeline.ΦA spec0 c : sProp 𝕄)
    = iprop(iprop((∃ d, owns (c : Thread nD τ) scW fullShare d) ∗ (∃ d, owns (c : Thread nD τ) scT fullShare d)) ∗ (∃ r, prngReg c r)) := by
  unfold Pipeline.ΦA; rw [scopedRest0_eq]; simp only [scW, scT, owns_whole]; try rfl

/-- The invariant between points: before the first, anything; after point `n`, the weight matrix in the first buffer and
    the first `n + 1` rows of the table in the second. -/
def Inv (c : Dev nD) : ℕ → sProp 𝕄
  | 0 => Pipeline.ΦA spec0 c
  | n + 1 => iprop(iprop(owns (c : Thread nD τ) scW fullShare (W m c)
      ∗ (∃ d, iprop(⌜Filled m c (n + 1) d⌝ ∗ owns (c : Thread nD τ) scT fullShare d))) ∗ (∃ r, prngReg c r))

/-- The invariant after a point. -/
theorem Inv_succ (c : Dev nD) (n : ℕ) : Inv m c (n + 1) = iprop(iprop(owns (c : Thread nD τ) scW fullShare (W m c)
      ∗ (∃ d, iprop(⌜Filled m c (n + 1) d⌝ ∗ owns (c : Thread nD τ) scT fullShare d))) ∗ (∃ r, prngReg c r)) := rfl

/-- The invariant before any point but the first. -/
theorem Inv_pos (c : Dev nD) (n : ℕ) (h : n ≠ 0) : Inv m c n = iprop(iprop(owns (c : Thread nD τ) scW fullShare (W m c)
      ∗ (∃ d, iprop(⌜Filled m c n d⌝ ∗ owns (c : Thread nD τ) scT fullShare d))) ∗ (∃ r, prngReg c r)) := by
  cases n with
  | zero => exact absurd rfl h
  | succ n => rfl

/-- The pipeline's proof data: inputs keep their blocks, the output window ends at `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c
  Φ t := Inv m c t.val
  q _ := fullShare
  owed _ := 0

/-- The arrays the region starts from. -/
theorem A_eq (c : Dev nD) (w : Fin cfg0.W) : (dats m 0 c).A w = V m c (Pipeline.arrRef spec0 w) := by dsimp only [dats]

/-- What each window holds after a point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = result m c := by dsimp only [dats]

/-- What each input window holds before a point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- What the body is handed at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body hands back at point `t`. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the input windows hand back: their blocks. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]

/-- The output window before the last point: handed back as found. -/
theorem leaves_4_idle (c : Dev nD) (t : Fin cfg0.N) (h : t.val ≠ 15) : (dats m 0 c).leavesExact 4 t
    = iprop(∃ d, owns (c : Thread nD τ) (st0_4 t) fullShare ((dats m 0 c).before 4 t d)) := by
  have ht : t.val < 16 := Nat.lt_of_lt_of_eq t.isLt N_0
  refine (dats m 0 c).leavesExact_idle 4 t ?_ ?_
  · have h' : ¬ k0_cond2 (grid0.coords t) = 1#1 := fun e => h ((isLast_iff t).mp e)
    show (!(k0_cond2 (grid0.coords t) == 1#1)) = true
    rw [beq_eq_false_iff_ne.mpr h']; rfl
  · rw [Bool.eq_false_iff]
    intro e
    have := (flush0_4 t).mp e
    omega

/-- The output window at the last point: handed back at `result`. -/
theorem leaves_4_last (c : Dev nD) (t : Fin cfg0.N) (h : t.val = 15) : (dats m 0 c).leavesExact 4 t
    = owns (c : Thread nD τ) (st0_4 t) fullShare (result m c) := by
  have e : cfg0.idle 4 (grid0.coords t) = false := by
    have h' : k0_cond2 (grid0.coords t) = 1#1 := (isLast_iff t).mpr h
    show (!(k0_cond2 (grid0.coords t) == 1#1)) = false
    rw [h']; rfl
  unfold Dat.leavesExact; rw [e, after_4]

set_option maxHeartbeats 4800000 in
/-- The body at any point takes the invariant to the next one. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl,
    show (dats m 0 c).Φ t.succ = Inv m c (t.val + 1) from rfl, show (dats m 0 c).Φ t.castSucc = Inv m c t.val from rfl,
    Inv_succ, leaves_0, leaves_1, leaves_2, leaves_3]
  have hN : t.val < 16 := lt_of_lt_of_eq t.isLt (show cfg0.N = 16 from N_0)
  by_cases h0 : t.val = 0
  · rw [leaves_4_idle m c t (by omega), h0, show Inv m c 0 = Pipeline.ΦA spec0 c from rfl, start_eq]
    iintro ⟨⟨⟨HS0, ⟨%y, HS1⟩⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ ((isFirst_iff t).mpr h0) (fun h => by have := (isLast_iff t).mp h; omega)
      (iblk m c 0 t) (iblk m c 1 t) (iblk m c 2 t) (iblk m c 3 t) y _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexists _; isplitr
        swap; · iexact HS1
        ipureintro
        have := filled_succ m c t y (by rw [h0]; exact filled_zero m c y)
        rw [h0] at this
        exact this
      iexact Hg
    isplitl [Ho]; · iexact Ho
    isplitl [H0]; · iexact H0
    isplitl [H1]; · iexact H1
    isplitl [H2]; · iexact H2
    isplitl [H3]; · iexact H3
    iexists _; iexact H4
  · rw [Inv_pos m c _ h0]
    by_cases h1 : t.val = 15
    · rw [leaves_4_last m c t h1]
      iintro ⟨⟨⟨HS0, ⟨%y, ⟨%hy, HS1⟩⟩⟩, Hg⟩, Ho, ⟨%d0, H0⟩, ⟨%d1, H1⟩, ⟨%d2, H2⟩, ⟨%d3, H3⟩, ⟨%d4, H4⟩⟩
      have hf := filled_succ m c t y hy
      have hall : setRow (grid0.coords t 0).val y (pooled (iblk m c 3 t) (W m c)) = table m c :=
        filled_all m c _ (by rw [h1] at hf; exact hf)
      iapply (run_last c (grid0.coords t) _ _ _ _ _ _ _ _ _ _ _ _ _ _ (fun h => h0 ((isFirst_iff t).mp h)) ((isLast_iff t).mpr h1)
        (iblk m c 0 t) (iblk m c 1 t) (iblk m c 2 t) (iblk m c 3 t) (W m c) y Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      rw [hall]
      iintro ⟨H0, H1, H2, H3, H4, HS0, HS1⟩
      isplitl [HS0 HS1 Hg]
      · isplitl [HS0 HS1]
        · isplitl [HS0]; · iexact HS0
          iexists _; isplitr
          swap; · iexact HS1
          ipureintro
          exact fun _ _ _ => rfl
        iexact Hg
      isplitl [Ho]; · iexact Ho
      isplitl [H0]; · iexact H0
      isplitl [H1]; · iexact H1
      isplitl [H2]; · iexact H2
      isplitl [H3]; · iexact H3
      iexact H4
    · rw [leaves_4_idle m c t h1]
      iintro ⟨⟨⟨HS0, ⟨%y, ⟨%hy, HS1⟩⟩⟩, Hg⟩, Ho, ⟨%d0, H0⟩, ⟨%d1, H1⟩, ⟨%d2, H2⟩, ⟨%d3, H3⟩, ⟨%d4, H4⟩⟩
      have hf := filled_succ m c t y hy
      iapply (run_middle c (grid0.coords t) _ _ _ _ _ _ _ _ _ _ _ _ _ _ (fun h => h0 ((isFirst_iff t).mp h)) (fun h => h1 ((isLast_iff t).mp h))
        (iblk m c 0 t) (iblk m c 1 t) (iblk m c 2 t) (iblk m c 3 t) (W m c) y _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexists _; isplitr
          swap; · iexact HS1
          ipureintro
          exact hf
        iexact Hg
      isplitl [Ho]; · iexact Ho
      isplitl [H0]; · iexact H0
      isplitl [H1]; · iexact H1
      isplitl [H2]; · iexact H2
      isplitl [H3]; · iexact H3
      iexists _; iexact H4

/-- The pipeline's body, as its table gives it, is the body at the point. -/
theorem row (t : Fin cfg0.N) : defs₀ (F := F) .tc cfg0.body (cfg0.bodyArgs t (cfg0.slots t)) = bodyAt0 t := by
  unfold defs₀; rw [Defs.onTc_tc]

/-- The obligation at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

/-- The launch hands over the invariant before the first point. -/
theorem enter (c : Dev nD) : Pipeline.ΦA spec0 c ⊢ (dats m 0 c).Φ 0 := by
  rw [show (dats m 0 c).Φ 0 = Pipeline.ΦA spec0 c from rfl]

/-- The invariant after the last point gives back the buffers. -/
theorem leave (c : Dev nD) : (dats m 0 c).Φ (Fin.last cfg0.N) ⊢ Pipeline.ΦA spec0 c := by
  rw [show (dats m 0 c).Φ (Fin.last cfg0.N) = Inv m c cfg0.N from rfl,
    Inv_pos m c _ (by rw [show cfg0.N = 16 from N_0]; decide), start_eq]
  iintro ⟨⟨HS0, ⟨%y, ⟨-, HS1⟩⟩⟩, Hg⟩
  isplitl [HS0 HS1]
  · isplitl [HS0]
    · iexists _; iexact HS0
    iexists _; iexact HS1
  iexact Hg

/-! ## The run -/

set_option backward.isDefEq.respectTransparency.types false in
set_option maxHeartbeats 800000 in
/-- Every execution ends with each array at what the pipeline leaves there, the host lines after the region applied, and
    every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame: every execution ends, with the four arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Region

end
-- ==== Proof.Frames.lean ====
/- The three programs' frames: each runs to the end, its arguments unchanged, every counter at zero. -/
module

public import proofs.«01_k».proof.Defs
public import proofs.«01_k».proof.Proof.Region
public import proofs.«01_k».proof.Proof.Gen.Kernel
public import proofs.«01_k».proof.Proof.Gen.ReferenceIdeal
public import proofs.«01_k».proof.Proof.Gen.ReferenceIdeal.Run

@[expose] public section

noncomputable section

namespace Cert.Frames

open Idealize.ShloMosaic Idealize.SL.Sem

/-- The kernel as compiled and the kernel read over the extended reals have the same body table. -/
theorem table_eq {F : FTy → Type} [FloatOps F] : Cert.Kernel.defs (F := F) = Cert.KernelIdeal.defs (F := F) := by
  refine congrArg (Pipeline.defs Cert.KernelIdeal.pcfgs) (congrArg Defs.onTc ?_)
  funext l a
  match l, a with
  | 0, (t, s) => rfl

/-- The compiled kernel's frame: the two programs are the same text, and the frame holds for any float values. -/
theorem kernel : Cert.quiescent_Kernel := fun m g _ => by
  have h := Cert.KernelIdeal.Region.frame_main (F := Bits) m g
  rw [← table_eq] at h
  exact h

/-- The idealized kernel's frame. -/
theorem kernelIdeal : Cert.quiescent_KernelIdeal := fun m g _ => Cert.KernelIdeal.Region.frame_main (F := Ideal) m g

/-- The reference has no semaphore: every state of its counters is the zero state. -/
theorem counters_zero (s : GSem Cert.ReferenceIdeal.nD Cert.ReferenceIdeal.τ Cert.ReferenceIdeal.sig → ℤ) : s = fun _ => 0 := by
  funext x
  rcases x with ⟨_, y | y⟩
  · exact y.elim0
  · exact y.elim0

/-- The reference's frame. -/
theorem referenceIdeal : Cert.quiescent_ReferenceIdeal := fun m g _ =>
  (θ_run Cert.ReferenceIdeal.defs _ _).mono (fun _ h => ⟨fun c => (h c).2, counters_zero _⟩) (Cert.ReferenceIdeal.Value.run m g)

end Cert.Frames

end
-- ==== Proof.Mask.lean ====
/- The kernel's block mask: the two integer tables it compares are the row's block and the lane's block. -/
module

public import proofs.«01_k».proof.Proof.Gen.KernelIdeal.Skeleton
public import Idealize.ShloMosaic.Lib.ValueIdx
public import Idealize.ShloMosaic.PureOps.Ideal.Laws
public import Idealize.ShloMosaic.Lib.Pipeline.Value

@[expose] public section

noncomputable section

namespace Cert.KernelIdeal.Value

open Idealize.ShloMosaic Idealize.ShloMosaic.ValueIdx
open Cert.KernelIdeal.Gen

/-- The row's block number, as the kernel computes it: a floor division by 512. -/
theorem rowBlock (k : Fin 4096) (l : Fin 128) : k0_pay2 (ix2 k l) = BitVec.ofNat 32 (k.val / 512) := by
  have key : ∀ k : Fin 4096,
      Scalar.select
        (IntOp.andi
          (IntOp.cmpi .ne
            (IntOp.subi ((IntOp.cmpi .sgt (BitVec.ofNat 32 k.val) 0#32).setWidth 32)
              ((IntOp.cmpi .slt (BitVec.ofNat 32 k.val) 0#32).setWidth 32))
            (Scalar.subi (Scalar.extui (Scalar.cmpi .sgt 512#32 0#32)) (Scalar.extui (Scalar.cmpi .slt 512#32 0#32))))
          (IntOp.cmpi .ne (IntOp.remsi .vector (BitVec.ofNat 32 k.val) 512#32) 0#32))
        (IntOp.subi (IntOp.divsi .vector (BitVec.ofNat 32 k.val) 512#32) 1#32)
        (IntOp.divsi .vector (BitVec.ofNat 32 k.val) 512#32) = BitVec.ofNat 32 (k.val / 512) := by
    decide +kernel
  have e : iota .tc S4096x128 32 [0] iota_S4096x128_d0_w32 (ix2 k l) = BitVec.ofNat 32 k.val :=
    iota_single_apply _ _ _ _ _ _
  rw [← key k, ← e]
  rfl

/-- The lane's block number, as the kernel computes it: a floor division by 16. -/
theorem laneBlock (k : Fin 4096) (l : Fin 128) :
    select (andi k0_pay4 (cmpi .ne k0_pay5 (broadcast S4096x128 0#32)))
      (subi k0_pay3 (broadcast S4096x128 1#32)) k0_pay3 (ix2 k l) = BitVec.ofNat 32 (l.val / 16) := by
  have key : ∀ l : Fin 128,
      Scalar.select
        (IntOp.andi
          (IntOp.cmpi .ne
            (IntOp.subi ((IntOp.cmpi .sgt (BitVec.ofNat 32 l.val) 0#32).setWidth 32)
              ((IntOp.cmpi .slt (BitVec.ofNat 32 l.val) 0#32).setWidth 32))
            (Scalar.subi (Scalar.extui (Scalar.cmpi .sgt 16#32 0#32)) (Scalar.extui (Scalar.cmpi .slt 16#32 0#32))))
          (IntOp.cmpi .ne (IntOp.remsi .vector (BitVec.ofNat 32 l.val) 16#32) 0#32))
        (IntOp.subi (IntOp.divsi .vector (BitVec.ofNat 32 l.val) 16#32) 1#32)
        (IntOp.divsi .vector (BitVec.ofNat 32 l.val) 16#32) = BitVec.ofNat 32 (l.val / 16) := by
    decide +kernel
  have e : iota .tc S4096x128 32 [1] iota_S4096x128_d1_w32 (ix2 k l) = BitVec.ofNat 32 l.val :=
    iota_single_apply _ _ _ _ _ _
  rw [← key l, ← e]
  rfl

/-- The masked table: the tiled weights where the row's block is the lane's block, zero elsewhere. -/
theorem mask_apply (v : FVec Ideal S4096x128 .f32) (k : Fin 4096) (l : Fin 128) :
    k0_pay11 v k0_pay2 k0_pay3 k0_pay4 k0_pay5 0#32 (ix2 k l)
      = if k.val / 512 = l.val / 16 then v (ix2 k l) else 0 := by
  unfold k0_pay11
  rw [shapeCast_self]
  show Scalar.select (IntOp.cmpi .eq (k0_pay2 (ix2 k l)) (select (andi k0_pay4 (cmpi .ne k0_pay5 (broadcast S4096x128 0#32)))
      (subi k0_pay3 (broadcast S4096x128 1#32)) k0_pay3 (ix2 k l))) (v (ix2 k l)) (Ideal.ofBits .f32 0x00000000#32) = _
  rw [rowBlock, laneBlock, Ideal.ofBits_zero_f32]
  have hk := k.isLt
  have hl := l.isLt
  by_cases h : k.val / 512 = l.val / 16
  · rw [if_pos h, h]
    simp [IntOp.cmpi, Scalar.select]
  · rw [if_neg h]
    have hne : ¬ BitVec.ofNat 32 (k.val / 512) = BitVec.ofNat 32 (l.val / 16) := by
      intro e
      have := congrArg BitVec.toNat e
      simp only [BitVec.toNat_ofNat] at this
      omega
    rw [show IntOp.cmpi .eq (BitVec.ofNat 32 (k.val / 512)) (BitVec.ofNat 32 (l.val / 16)) = 0#1 from by
      simp only [IntOp.cmpi, beq_eq_false_iff_ne.2 hne]; rfl]
    rfl

end Cert.KernelIdeal.Value
-- ==== Proof.Model.lean ====
/- The functions both programs compute, over the extended reals with plain finite indices: the two weight tables drawn
   from the parameters, the two matrix products, the softmax pooling in the kernel's order and in the reference's, and
   the standardisation over the batch. Nothing here mentions a program. -/
module

public import Idealize.ShloMosaic.PureOps.Ideal

@[expose] public section

noncomputable section

namespace Cert.Mil

open Idealize.ShloMosaic
open scoped BigOperators

/-- Row `q` of the first half of the parameters (the attention's rows). -/
def lo (q : Fin 512) : Fin 1024 := ⟨q.val, by omega⟩
/-- Row `q` of the second half of the parameters (the value's rows). -/
def hi (q : Fin 512) : Fin 1024 := ⟨512 + q.val, by omega⟩

section Weights
variable (mu ls : Fin 1024 → EReal) (ep : Fin 1024 → Fin 8 → EReal)

/-- The sampled parameter `p` for draw `j`: mean plus standard deviation times noise. -/
def beta (p : Fin 1024) (j : Fin 8) : EReal := mu p + Ideal.exp (ls p) * ep p j

/-- The scale of draw `j`: the root mean square of the second half's rows. -/
def scale (j : Fin 8) : EReal :=
  Ideal.sqrt (Ideal.div (∑ q : Fin 512, beta mu ls ep (hi q) j * beta mu ls ep (hi q) j) 512)

/-- The normalised value weights of draw `j`. -/
def eta (q : Fin 512) (j : Fin 8) : EReal := Ideal.div (beta mu ls ep (hi q) j) (scale mu ls ep j)

end Weights

section Bags
variable (X : Fin 16 → Fin 4096 → Fin 512 → EReal) (w : Fin 512 → Fin 8 → EReal)

/-- One instance's product with a weight table. -/
def proj (n : Fin 16) (i : Fin 4096) (j : Fin 8) : EReal := ∑ q : Fin 512, X n i q * w q j

end Bags

section Pool
variable (u z : Fin 4096 → EReal)

/-- The largest logit of a bag. -/
def top : EReal := Finset.univ.sup u

/-- A bag's unnormalised attention weight. -/
def att (i : Fin 4096) : EReal := Ideal.exp (u i - top u)

/-- The kernel's pooling: the weighted sum divided once. -/
def poolLate : EReal := Ideal.div (∑ i, att u i * z i) (∑ i, att u i)

/-- The reference's pooling: each weight divided, then the weighted sum. -/
def poolEarly : EReal := ∑ i, Ideal.div (att u i) (∑ k, att u k) * z i

end Pool

section Batch
variable (b : EReal) (p : Fin 16 → EReal)

/-- The batch mean. -/
def mean : EReal := Ideal.div (∑ n, p n) 16

/-- The batch variance, with one degree of freedom taken off. -/
def var : EReal := Ideal.div (∑ n, (p n - mean p) * (p n - mean p)) 15

/-- The standardised and scaled result. -/
def standard (n : Fin 16) : EReal := Ideal.div (b * (p n - mean p)) (Ideal.sqrt (var p))

end Batch

/-! ## The literals -/

theorem bits_512 : Ideal.ofBits .f32 0x44000000#32 = 512 := by
  simp [Ideal.ofBits, Ideal.ieee]
  rw [← EReal.coe_mul, show ((512 : EReal)) = (((512 : ℝ)) : EReal) from rfl]
  exact congrArg _ (by norm_num)
theorem bits_16 : Ideal.ofBits .f32 0x41800000#32 = 16 := by
  simp [Ideal.ofBits, Ideal.ieee]
  rw [← EReal.coe_mul, show ((16 : EReal)) = (((16 : ℝ)) : EReal) from rfl]
  exact congrArg _ (by norm_num)
theorem bits_15 : Ideal.ofBits .f32 0x41700000#32 = 15 := by
  simp [Ideal.ofBits, Ideal.ieee]
  rw [← EReal.coe_mul, show ((15 : EReal)) = (((15 : ℝ)) : EReal) from rfl]
  exact congrArg _ (by norm_num)
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

end Cert.Mil
-- ==== Proof.Weights.lean ====
/- The weight matrix the kernel's first grid point builds, read at an index over the extended reals: the sampled
   parameters, their scale, the normalised value weights, and the block-diagonal matrix that tiles both. -/
module

public import proofs.«01_k».proof.Proof.Mask
public import proofs.«01_k».proof.Proof.Model
public import proofs.«01_k».proof.Proof.Body

@[expose] public section

noncomputable section

namespace Cert.KernelIdeal.Value

open Idealize.ShloMosaic Idealize.ShloMosaic.ValueIdx
open Cert.KernelIdeal.Gen Cert.Mil
open scoped BigOperators

/-- A one-column array as a function of its row. -/
def col (x : Vec Ideal S1024x1 .f32) (p : Fin 1024) : EReal := x (ix2 p (0 : Fin 1))
/-- A two-axis array as a function of its row and column. -/
def grid {a b : Nat} (x : Vec Ideal ⟨2, ![a, b]⟩ .f32) (p : Fin a) (j : Fin b) : EReal := x (ix2 p j)

variable (x0 x1 : Vec Ideal S1024x1 .f32) (x2 : Vec Ideal S1024x8 .f32)

theorem pay6_apply (p : Fin 1024) (j : Fin 8) :
    k0_pay6 x0 x1 x2 (ix2 p j) = beta (col x0) (col x1) (grid x2) p j := by
  have hk : ∀ a : Fin 2, ((ix2 p (0 : Fin 1) : S1024x1.Idx) a).val
      = if S1024x1.size a = 1 then 0 else ((ix2 p j : S1024x8.Idx) ⟨a.val + 0, a.isLt⟩).val := fun a => match a with
    | ⟨0, _⟩ => (if_neg (show ¬(1024 : Nat) = 1 by decide)).symm
    | ⟨1, _⟩ => (if_pos rfl).symm
  have e0 : broadcastTo S1024x8 x0 broadcasts_S1024x1_S1024x8 (ix2 p j) = x0 (ix2 p (0 : Fin 1)) :=
    broadcastTo_apply _ _ _ _ hk
  have e1 : broadcastTo S1024x8 (exp (F := Ideal) (φ := .f32) x1) broadcasts_S1024x1_S1024x8 (ix2 p j)
      = exp (F := Ideal) (φ := .f32) x1 (ix2 p (0 : Fin 1)) := broadcastTo_apply _ _ _ _ hk
  unfold k0_pay6
  rw [shapeCast_self]
  show broadcastTo S1024x8 x0 broadcasts_S1024x1_S1024x8 (ix2 p j)
    + broadcastTo S1024x8 (exp (F := Ideal) (φ := .f32) x1) broadcasts_S1024x1_S1024x8 (ix2 p j) * x2 (ix2 p j) = _
  rw [e0, e1]
  rfl

theorem pay7_apply (q : Fin 512) (j : Fin 8) :
    k0_pay7 x0 x1 x2 (ix2 q j) = beta (col x0) (col x1) (grid x2) (lo q) j := by
  rw [← pay6_apply]
  unfold k0_pay7
  exact extractStridedSlice_apply ![0, 0] _ _ (ix2 q j) (ix2 (lo q) j) fun a => match a with
    | ⟨0, _⟩ => (Nat.zero_add _).symm
    | ⟨1, _⟩ => (Nat.zero_add _).symm

theorem pay8_apply (q : Fin 512) (j : Fin 8) :
    k0_pay8 x0 x1 x2 (ix2 q j) = beta (col x0) (col x1) (grid x2) (hi q) j := by
  rw [← pay6_apply]
  unfold k0_pay8
  exact extractStridedSlice_apply ![512, 0] _ _ (ix2 q j) (ix2 (hi q) j) fun a => match a with
    | ⟨0, _⟩ => rfl
    | ⟨1, _⟩ => (Nat.zero_add _).symm

/-- A sum over the rows of a two-axis array, kept as a one-row array, read at its column. -/
theorem rowSum_apply {a b : Nat} (v : FVec Ideal ⟨2, ![a, b]⟩ .f32) (h : Shape.Reduces ⟨2, ![a, b]⟩ [0] ⟨1, ![b]⟩)
    (hs : Shape.ShapeCasts ⟨1, ![b]⟩ ⟨2, ![1, b]⟩) (hφ : FKind.Formats .f32)
    (hacc : (0x00000000#32 : BitVec 32) = FKind.add.neutral .f32 hφ) (j : Fin b) :
    shapeCast ⟨2, ![1, b]⟩ (multiReduction .add [0] ⟨1, ![b]⟩ v 0x00000000#32 h hφ hacc) hs (ix2 (0 : Fin 1) j)
      = ∑ r : Fin a, v (ix2 r j) := by
  refine (shapeCast_addUnit_apply ![b] _ hs (ix2 (0 : Fin 1) j)).trans ?_
  refine (Ideal.multiReduction_add_single v _ h hφ hacc _).trans ?_
  refine Finset.sum_congr rfl fun r _ => congrArg v (funext fun c => Fin.ext ?_)
  match c with
  | ⟨0, _⟩ => rfl
  | ⟨1, _⟩ => rfl

theorem pay9_apply (j : Fin 8) : k0_pay9 x0 x1 x2 (ix2 (0 : Fin 1) j) = scale (col x0) (col x1) (grid x2) j := by
  unfold k0_pay9 scale
  show Ideal.sqrt (Ideal.div (shapeCast S1x8 (multiReduction .add [0] S8
    (mulf (k0_pay8 x0 x1 x2) (k0_pay8 x0 x1 x2)) 0x00000000#32 reduces_S512x8_S8 (.inl rfl) rfl) shapeCasts_S8_S1x8 (ix2 (0 : Fin 1) j))
    (Ideal.ofBits .f32 0x44000000#32)) = _
  rw [bits_512, show shapeCast S1x8 (multiReduction .add [0] S8 (mulf (k0_pay8 x0 x1 x2) (k0_pay8 x0 x1 x2)) 0x00000000#32
    reduces_S512x8_S8 (.inl rfl) rfl) shapeCasts_S8_S1x8 (ix2 (0 : Fin 1) j) = _ from rowSum_apply _ _ _ _ _ j]
  refine congrArg (fun t => Ideal.sqrt (Ideal.div t 512)) (Finset.sum_congr rfl fun q _ => ?_)
  rw [mulf_apply, pay8_apply]

theorem pay10_apply (q : Fin 512) (j : Fin 8) :
    k0_pay10 x0 x1 x2 (ix2 q j) = eta (col x0) (col x1) (grid x2) q j := by
  unfold k0_pay10 eta
  have e : broadcastTo S512x8 (k0_pay9 x0 x1 x2) broadcasts_S1x8_S512x8 (ix2 q j) = k0_pay9 x0 x1 x2 (ix2 (0 : Fin 1) j) :=
    broadcastTo_apply _ _ _ _ fun a => match a with
    | ⟨0, _⟩ => (if_pos rfl).symm
    | ⟨1, _⟩ => (if_neg (show ¬(8 : Nat) = 1 by decide)).symm
  show Ideal.div (k0_pay8 x0 x1 x2 (ix2 q j)) (broadcastTo S512x8 (k0_pay9 x0 x1 x2) broadcasts_S1x8_S512x8 (ix2 q j)) = _
  rw [e, pay8_apply, pay9_apply]

/-- Eight copies of one array laid along an axis, read at an index: the copy at the coordinate modulo its extent. -/
theorem tile_apply {α : Type} {t s : Shape} (a : Fin t.rank) (x : s.Idx → α)
    (h : Shape.Concatenates [s, s, s, s, s, s, s, s] t a) (hr : s.rank = t.rank) (j : t.Idx) (i : s.Idx)
    (hia : (i (a.cast hr.symm)).val = (j a).val % s.size (a.cast hr.symm))
    (hi : ∀ b : Fin s.rank, b.cast hr ≠ a → (i b).val = (j (b.cast hr)).val) :
    concatenate t a [⟨s, x⟩, ⟨s, x⟩, ⟨s, x⟩, ⟨s, x⟩, ⟨s, x⟩, ⟨s, x⟩, ⟨s, x⟩, ⟨s, x⟩] h j = x i :=
  concatenate_replicate_apply a 8 x h hr j i hia hi

/-- The sixteen columns the matrix tiles: eight attention columns, then eight value columns. -/
def cols (mu ls : Fin 1024 → EReal) (ep : Fin 1024 → Fin 8 → EReal) (q : Fin 512) (c : Fin 16) : EReal :=
  if h : c.val < 8 then beta mu ls ep (lo q) ⟨c.val, h⟩ else eta mu ls ep q ⟨c.val - 8, by omega⟩

/-- The tiled matrix read at an index: the sixteen columns repeat along both axes. -/
theorem tiled_apply (k : Fin 4096) (l : Fin 128) :
    k0_pay1 (k0_pay7 x0 x1 x2) (k0_pay10 x0 x1 x2) (ix2 k l)
      = cols (col x0) (col x1) (grid x2) ⟨k.val % 512, Nat.mod_lt _ (by decide)⟩ ⟨l.val % 16, Nat.mod_lt _ (by decide)⟩ := by
  unfold k0_pay1
  refine (tile_apply (t := S4096x128) (s := S4096x16) (1 : Fin 2) _ _ rfl (ix2 k l) (ix2 k (⟨l.val % 16, Nat.mod_lt _ (by decide)⟩ : Fin 16)) rfl ?_).trans ?_
  · intro b hb
    match b with
    | ⟨0, _⟩ => rfl
    | ⟨1, _⟩ => exact absurd rfl hb
  refine (tile_apply (t := S4096x16) (s := S512x16) (0 : Fin 2) _ _ rfl _ (ix2 (⟨k.val % 512, Nat.mod_lt _ (by decide)⟩ : Fin 512) (⟨l.val % 16, Nat.mod_lt _ (by decide)⟩ : Fin 16)) rfl ?_).trans ?_
  · intro b hb
    match b with
    | ⟨0, _⟩ => exact absurd rfl hb
    | ⟨1, _⟩ => rfl
  generalize (⟨k.val % 512, Nat.mod_lt _ (by decide)⟩ : Fin 512) = q
  generalize (⟨l.val % 16, Nat.mod_lt _ (by decide)⟩ : Fin 16) = c
  unfold cols
  by_cases hc : c.val < 8
  · rw [dif_pos hc, ← pay7_apply]
    exact concatenate_pair_apply_left (t := S512x16) (s₁ := S512x8) (s₂ := S512x8) (1 : Fin 2) _ _ _ (ix2 q c) rfl (ix2 q (⟨c.val, hc⟩ : Fin 8)) fun b => match b with
      | ⟨0, _⟩ => rfl
      | ⟨1, _⟩ => rfl
  · rw [dif_neg hc, ← pay10_apply]
    refine concatenate_pair_apply_right (t := S512x16) (s₁ := S512x8) (s₂ := S512x8) (1 : Fin 2) _ _ _ (ix2 q c) rfl rfl (ix2 q (⟨c.val - 8, by omega⟩ : Fin 8)) ?_ ?_
    · intro b hb
      match b with
      | ⟨0, _⟩ => rfl
      | ⟨1, _⟩ => exact absurd rfl hb
    · show c.val - 8 + 8 = c.val
      omega

/-- The weight matrix read at an index: the sixteen columns in the diagonal blocks, zero off them. -/
theorem weights_apply (k : Fin 4096) (l : Fin 128) :
    Body.weights x0 x1 x2 (ix2 k l) = if k.val / 512 = l.val / 16 then
      cols (col x0) (col x1) (grid x2) ⟨k.val % 512, Nat.mod_lt _ (by decide)⟩ ⟨l.val % 16, Nat.mod_lt _ (by decide)⟩ else 0 := by
  unfold Body.weights
  rw [mask_apply, tiled_apply]

end Cert.KernelIdeal.Value
-- ==== Proof.Pool.lean ====
/- One batch row through the kernel, read at an index over the extended reals: the product with the block-diagonal
   matrix, the largest logit, the exponentials, the two lane-group sums and their quotient. -/
module

public import proofs.«01_k».proof.Proof.Weights

@[expose] public section

noncomputable section

namespace Cert.KernelIdeal.Value

open Idealize.ShloMosaic Idealize.ShloMosaic.ValueIdx
open Cert.KernelIdeal.Gen Cert.Mil
open scoped BigOperators

/-! ## Indices -/

/-- The instance that row `r` of the packed bag holds in its group `g`. -/
def bag (r : Fin 512) (g : Fin 8) : Fin 4096 := ⟨8 * r.val + g.val, by omega⟩
/-- The packed column of feature `q` in group `g`. -/
def blk (g : Fin 8) (q : Fin 512) : Fin 4096 := ⟨512 * g.val + q.val, by omega⟩
/-- The lane of column `c` in group `g`. -/
def lane (g : Fin 8) (c : Fin 16) : Fin 128 := ⟨16 * g.val + c.val, by omega⟩
/-- An attention column. -/
def uCol (j : Fin 8) : Fin 16 := ⟨j.val, by omega⟩
/-- A value column. -/
def zCol (j : Fin 8) : Fin 16 := ⟨j.val + 8, by omega⟩

/-- A sum over a bag's instances, by group and packed row. -/
theorem sum_bag (f : Fin 4096 → EReal) : ∑ i, f i = ∑ g : Fin 8, ∑ r : Fin 512, f (bag r g) := by
  rw [Finset.sum_comm, ← Equiv.sum_comp (finProdFinEquiv (m := 512) (n := 8)) f, Fintype.sum_prod_type]
  exact Finset.sum_congr rfl fun r _ => Finset.sum_congr rfl fun g _ =>
    congrArg f (Fin.ext (by show g.val + 8 * r.val = 8 * r.val + g.val; omega))

/-- A sum over the packed columns, by group and feature. -/
theorem sum_blk (f : Fin 4096 → EReal) : ∑ k, f k = ∑ g : Fin 8, ∑ q : Fin 512, f (blk g q) := by
  rw [← Equiv.sum_comp (finProdFinEquiv (m := 8) (n := 512)) f, Fintype.sum_prod_type]
  exact Finset.sum_congr rfl fun g _ => Finset.sum_congr rfl fun q _ =>
    congrArg f (Fin.ext (by show q.val + 512 * g.val = 512 * g.val + q.val; omega))

/-- The largest over a bag's instances, by group and packed row. -/
theorem sup_bag (f : Fin 4096 → EReal) :
    Finset.univ.sup f = Finset.univ.sup fun g : Fin 8 => Finset.univ.sup fun r : Fin 512 => f (bag r g) := by
  apply le_antisymm
  · refine Finset.sup_le fun i _ => ?_
    have e : i = bag ⟨i.val / 8, by omega⟩ ⟨i.val % 8, by omega⟩ := Fin.ext (by
      show i.val = 8 * (i.val / 8) + i.val % 8
      omega)
    rw [e]
    exact le_trans (Finset.le_sup (f := fun r : Fin 512 => f (bag r ⟨i.val % 8, by omega⟩)) (Finset.mem_univ _))
      (Finset.le_sup (f := fun g : Fin 8 => Finset.univ.sup fun r : Fin 512 => f (bag r g)) (Finset.mem_univ _))
  · exact Finset.sup_le fun g _ => Finset.sup_le fun r _ => Finset.le_sup (Finset.mem_univ _)

/-- Eight values combined by the maximum, one after the other, are their supremum. -/
theorem max_eight (f : Fin 8 → EReal) :
    max (max (max (max (max (max (max (f 0) (f 1)) (f 2)) (f 3)) (f 4)) (f 5)) (f 6)) (f 7) = Finset.univ.sup f := by
  have le : ∀ g, f g ≤ Finset.univ.sup f := fun g => Finset.le_sup (Finset.mem_univ g)
  apply le_antisymm
  · simp only [max_le_iff]
    exact ⟨⟨⟨⟨⟨⟨⟨le 0, le 1⟩, le 2⟩, le 3⟩, le 4⟩, le 5⟩, le 6⟩, le 7⟩
  · refine Finset.sup_le fun g _ => ?_
    fin_cases g <;> simp

/-! ## The product -/

/-- The product of a packed bag with a matrix, read at an index. -/
theorem product_apply (x : Vec Ideal S1x512x4096 .f32) (w : Vec Ideal S4096x128 .f32) (r : Fin 512) (l : Fin 128) :
    k0_pay12 x w (ix2 r l) = ∑ k : Fin 4096, x (ix3 (0 : Fin 1) r k) * w (ix2 k l) := by
  unfold k0_pay12
  have e : ∀ k : Fin 4096, shapeCast S512x4096 x shapeCasts_S1x512x4096_S512x4096 (ix2 r k) = x (ix3 (0 : Fin 1) r k) := fun k => by
    refine (shapeCast_dropUnit_apply ![512, 4096] x _ (ix2 r k)).trans (congrArg x (funext fun a => ?_))
    match a with
    | ⟨0, _⟩ => rfl
    | ⟨1, _⟩ => rfl
    | ⟨2, _⟩ => rfl
  simp only [matmul]
  refine (Ideal.matmul_constant_zero_apply _ _ _ _ _).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  rw [← e k]
  refine congrArg₂ (· * ·) (congrArg _ (Shape.idx_ext₂ ?_ ?_)) (congrArg w (Shape.idx_ext₂ ?_ ?_))
  · rfl
  · exact (dot_S512x4096_S4096x128_S512x128_1_0_0_1_n_n.lhsIdx_val_of_single rfl _ _).trans hk
  · exact (dot_S512x4096_S4096x128_S512x128_1_0_0_1_n_n.rhsIdx_val_of_single rfl _ _).trans hk
  · rfl

section Row
variable (x : Vec Ideal S1x512x4096 .f32) (x0 x1 : Vec Ideal S1024x1 .f32) (x2 : Vec Ideal S1024x8 .f32)

/-- With the block-diagonal matrix, lane `c` of group `g` holds that group's instance against column `c`: the other
    groups meet zeros. -/
theorem logits_apply (r : Fin 512) (g : Fin 8) (c : Fin 16) :
    k0_pay12 x (Body.weights x0 x1 x2) (ix2 r (lane g c))
      = ∑ q : Fin 512, x (ix3 (0 : Fin 1) r (blk g q)) * cols (col x0) (col x1) (grid x2) q c := by
  rw [product_apply, sum_blk, Finset.sum_eq_single g]
  · refine Finset.sum_congr rfl fun q _ => ?_
    rw [weights_apply, if_pos (by show (512 * g.val + q.val) / 512 = (16 * g.val + c.val) / 16; omega)]
    refine congrArg (_ * ·) (congrArg₂ (cols _ _ _) (Fin.ext ?_) (Fin.ext ?_))
    · show (512 * g.val + q.val) % 512 = q.val
      omega
    · show (16 * g.val + c.val) % 16 = c.val
      omega
  · intro g' _ hne
    have hne' : g'.val ≠ g.val := fun h => hne (Fin.ext h)
    refine Finset.sum_eq_zero fun q _ => ?_
    rw [weights_apply, if_neg (by show ¬(512 * g'.val + q.val) / 512 = (16 * g.val + c.val) / 16; omega), mul_zero]
  · exact fun h => absurd (Finset.mem_univ g) h

end Row

/-! ## The steps of the pooling -/

section Steps
variable (y : FVec Ideal S512x128 .f32)

/-- The largest of each lane. -/
def laneMax : FVec Ideal S1x128 .f32 :=
  shapeCast S1x128 (multiReduction .maximumf [0] S128 y 0xFF800000#32 reduces_S512x128_S128 (.inl rfl) rfl) shapeCasts_S128_S1x128
/-- The sum of each lane. -/
def laneSum : FVec Ideal S1x128 .f32 :=
  shapeCast S1x128 (multiReduction .add [0] S128 y 0x00000000#32 reduces_S512x128_S128 (.inl rfl) rfl) shapeCasts_S128_S1x128
/-- The largest over the eight lane groups. -/
def groupMax (v : FVec Ideal S1x128 .f32) : FVec Ideal S1x16 .f32 :=
  maximumf (maximumf (maximumf (maximumf (maximumf (maximumf (maximumf
    (extractStridedSlice S1x16 ![0, 0] v slices_S1x128_o0_0_S1x16) (extractStridedSlice S1x16 ![0, 16] v slices_S1x128_o0_16_S1x16))
    (extractStridedSlice S1x16 ![0, 32] v slices_S1x128_o0_32_S1x16)) (extractStridedSlice S1x16 ![0, 48] v slices_S1x128_o0_48_S1x16))
    (extractStridedSlice S1x16 ![0, 64] v slices_S1x128_o0_64_S1x16)) (extractStridedSlice S1x16 ![0, 80] v slices_S1x128_o0_80_S1x16))
    (extractStridedSlice S1x16 ![0, 96] v slices_S1x128_o0_96_S1x16)) (extractStridedSlice S1x16 ![0, 112] v slices_S1x128_o0_112_S1x16)
/-- The sum over the eight lane groups. -/
def groupSum (v : FVec Ideal S1x128 .f32) : FVec Ideal S1x16 .f32 :=
  addf (addf (addf (addf (addf (addf (addf
    (extractStridedSlice S1x16 ![0, 0] v slices_S1x128_o0_0_S1x16) (extractStridedSlice S1x16 ![0, 16] v slices_S1x128_o0_16_S1x16))
    (extractStridedSlice S1x16 ![0, 32] v slices_S1x128_o0_32_S1x16)) (extractStridedSlice S1x16 ![0, 48] v slices_S1x128_o0_48_S1x16))
    (extractStridedSlice S1x16 ![0, 64] v slices_S1x128_o0_64_S1x16)) (extractStridedSlice S1x16 ![0, 80] v slices_S1x128_o0_80_S1x16))
    (extractStridedSlice S1x16 ![0, 96] v slices_S1x128_o0_96_S1x16)) (extractStridedSlice S1x16 ![0, 112] v slices_S1x128_o0_112_S1x16)
/-- The exponentials of the logits less their group-wide maximum. -/
def expo (t : FVec Ideal S1x16 .f32) : FVec Ideal S512x128 .f32 :=
  exp (subf y (broadcastTo S512x128 (concatenate S1x128 1 [⟨S1x16, t⟩, ⟨S1x16, t⟩, ⟨S1x16, t⟩, ⟨S1x16, t⟩, ⟨S1x16, t⟩, ⟨S1x16, t⟩,
    ⟨S1x16, t⟩, ⟨S1x16, t⟩] concatenates_S1x16_S1x16_S1x16_S1x16_S1x16_S1x16_S1x16_S1x16_S1x128_d1) broadcasts_S1x128_S512x128))
/-- The lanes turned by eight, which brings each value lane under its attention lane. -/
def turned : FVec Ideal S512x128 .f32 :=
  concatenate S512x128 1 [⟨S512x120, extractStridedSlice S512x120 ![0, 8] y slices_S512x128_o0_8_S512x120⟩,
    ⟨S512x8, extractStridedSlice S512x8 ![0, 0] y slices_S512x128_o0_0_S512x8⟩] concatenates_S512x120_S512x8_S512x128_d1

/-- The row the kernel stores, in these steps. -/
theorem pooled_eq (x : Vec Ideal S1x512x4096 .f32) (w : Vec Ideal S4096x128 .f32) :
    Body.pooled x w = divf
      (groupSum (laneSum (mulf (expo (k0_pay12 x w) (groupMax (laneMax (k0_pay12 x w)))) (turned (k0_pay12 x w)))))
      (groupSum (laneSum (expo (k0_pay12 x w) (groupMax (laneMax (k0_pay12 x w)))))) :=
  shapeCast_self (divf
    (groupSum (laneSum (mulf (expo (k0_pay12 x w) (groupMax (laneMax (k0_pay12 x w)))) (turned (k0_pay12 x w)))))
    (groupSum (laneSum (expo (k0_pay12 x w) (groupMax (laneMax (k0_pay12 x w))))))) shapeCasts_S1x16_S1x16

theorem laneSum_apply (l : Fin 128) : laneSum y (ix2 (0 : Fin 1) l) = ∑ r : Fin 512, y (ix2 r l) :=
  rowSum_apply y _ _ _ _ l

theorem laneMax_apply (l : Fin 128) : laneMax y (ix2 (0 : Fin 1) l) = Finset.univ.sup fun r : Fin 512 => y (ix2 r l) := by
  unfold laneMax
  refine (shapeCast_addUnit_apply ![128] _ shapeCasts_S128_S1x128 (ix2 (0 : Fin 1) l)).trans ?_
  refine (Ideal.multiReduction_maximumf_single y _ reduces_S512x128_S128 (.inl rfl) rfl _).trans ?_
  show Finset.fold max (Ideal.ofBits .f32 0xFF800000#32) _ _ = Finset.fold max ⊥ _ _
  rw [bits_bot]
  refine Finset.fold_congr fun r _ => congrArg y (funext fun c => Fin.ext ?_)
  match c with
  | ⟨0, _⟩ => rfl
  | ⟨1, _⟩ => rfl

/-- One lane group cut out, read at a column. -/
theorem group_apply (v : FVec Ideal S1x128 .f32) (o : Nat) (h : Shape.Slices S1x128 ![0, o] S1x16) (g : Fin 8)
    (ho : o = 16 * g.val) (c : Fin 16) :
    extractStridedSlice S1x16 ![0, o] v h (ix2 (0 : Fin 1) c) = v (ix2 (0 : Fin 1) (lane g c)) := by
  subst ho
  exact extractStridedSlice_apply _ v h (ix2 (0 : Fin 1) c) (ix2 (0 : Fin 1) (lane g c)) fun a => match a with
    | ⟨0, _⟩ => rfl
    | ⟨1, _⟩ => rfl

theorem groupSum_apply (v : FVec Ideal S1x128 .f32) (c : Fin 16) :
    groupSum v (ix2 (0 : Fin 1) c) = ∑ g : Fin 8, v (ix2 (0 : Fin 1) (lane g c)) := by
  unfold groupSum
  simp only [addf_apply]
  rw [group_apply v 0 _ 0 rfl, group_apply v 16 _ 1 rfl, group_apply v 32 _ 2 rfl, group_apply v 48 _ 3 rfl,
    group_apply v 64 _ 4 rfl, group_apply v 80 _ 5 rfl, group_apply v 96 _ 6 rfl, group_apply v 112 _ 7 rfl, Fin.sum_univ_eight]

theorem groupMax_apply (v : FVec Ideal S1x128 .f32) (c : Fin 16) :
    groupMax v (ix2 (0 : Fin 1) c) = Finset.univ.sup fun g : Fin 8 => v (ix2 (0 : Fin 1) (lane g c)) := by
  unfold groupMax
  simp only [maximumf_apply]
  rw [group_apply v 0 _ 0 rfl, group_apply v 16 _ 1 rfl, group_apply v 32 _ 2 rfl, group_apply v 48 _ 3 rfl,
    group_apply v 64 _ 4 rfl, group_apply v 80 _ 5 rfl, group_apply v 96 _ 6 rfl, group_apply v 112 _ 7 rfl]
  exact max_eight fun g => v (ix2 (0 : Fin 1) (lane g c))

theorem expo_apply (t : FVec Ideal S1x16 .f32) (r : Fin 512) (g : Fin 8) (c : Fin 16) :
    expo y t (ix2 r (lane g c)) = Ideal.exp (y (ix2 r (lane g c)) - t (ix2 (0 : Fin 1) c)) := by
  unfold expo
  refine congrArg (fun s => Ideal.exp (y (ix2 r (lane g c)) - s)) ?_
  refine (broadcastTo_apply _ broadcasts_S1x128_S512x128 (ix2 r (lane g c)) (ix2 (0 : Fin 1) (lane g c)) fun a => match a with
    | ⟨0, _⟩ => (if_pos rfl).symm
    | ⟨1, _⟩ => (if_neg (show ¬(128 : Nat) = 1 by decide)).symm).trans ?_
  refine tile_apply (t := S1x128) (s := S1x16) (1 : Fin 2) t _ rfl _ (ix2 (0 : Fin 1) c) ?_ ?_
  · show c.val = (16 * g.val + c.val) % 16
    omega
  · intro b hb
    match b with
    | ⟨0, _⟩ => rfl
    | ⟨1, _⟩ => exact absurd rfl hb

theorem turned_apply (r : Fin 512) (g : Fin 8) (j : Fin 8) :
    turned y (ix2 r (lane g (uCol j))) = y (ix2 r (lane g (zCol j))) := by
  unfold turned
  refine (concatenate_pair_apply_left (t := S512x128) (s₁ := S512x120) (s₂ := S512x8) (1 : Fin 2) _ _ _ _ rfl
    (ix2 r (⟨16 * g.val + j.val, by omega⟩ : Fin 120)) fun b => match b with
      | ⟨0, _⟩ => rfl
      | ⟨1, _⟩ => rfl).trans ?_
  exact extractStridedSlice_apply _ y slices_S512x128_o0_8_S512x120 _ (ix2 r (lane g (zCol j))) fun a => match a with
    | ⟨0, _⟩ => (Nat.zero_add _).symm
    | ⟨1, _⟩ => by show 16 * g.val + (j.val + 8) = 8 + (16 * g.val + j.val); omega

end Steps

/-- The row the kernel stores: the softmax pooling of the bag's value products by its attention products, divided once
    at the end. -/
theorem pooled_apply (x : Vec Ideal S1x512x4096 .f32) (x0 x1 : Vec Ideal S1024x1 .f32) (x2 : Vec Ideal S1024x8 .f32)
    (U : Fin 4096 → Fin 512 → EReal) (hU : ∀ r g q, x (ix3 (0 : Fin 1) r (blk g q)) = U (bag r g) q) (j : Fin 8) :
    Body.pooled x (Body.weights x0 x1 x2) (ix2 (0 : Fin 1) (uCol j))
      = poolLate (fun i => ∑ q : Fin 512, U i q * beta (col x0) (col x1) (grid x2) (lo q) j)
          (fun i => ∑ q : Fin 512, U i q * eta (col x0) (col x1) (grid x2) q j) := by
  have hu : ∀ r g, k0_pay12 x (Body.weights x0 x1 x2) (ix2 r (lane g (uCol j)))
      = ∑ q : Fin 512, U (bag r g) q * beta (col x0) (col x1) (grid x2) (lo q) j := fun r g => by
    rw [logits_apply]
    refine Finset.sum_congr rfl fun q _ => ?_
    rw [hU, cols, dif_pos (show (uCol j).val < 8 from j.isLt)]
    rfl
  have hz : ∀ r g, k0_pay12 x (Body.weights x0 x1 x2) (ix2 r (lane g (zCol j)))
      = ∑ q : Fin 512, U (bag r g) q * eta (col x0) (col x1) (grid x2) q j := fun r g => by
    rw [logits_apply]
    refine Finset.sum_congr rfl fun q _ => ?_
    rw [hU, cols, dif_neg (show ¬(zCol j).val < 8 by show ¬j.val + 8 < 8; omega)]
    rfl
  rw [pooled_eq, divf_apply, groupSum_apply, groupSum_apply]
  generalize k0_pay12 x (Body.weights x0 x1 x2) = y at hu hz
  have ht : groupMax (laneMax y) (ix2 (0 : Fin 1) (uCol j))
      = top fun i => ∑ q : Fin 512, U i q * beta (col x0) (col x1) (grid x2) (lo q) j := by
    rw [groupMax_apply, top, sup_bag]
    refine Finset.sup_congr rfl fun g _ => ?_
    rw [laneMax_apply]
    exact Finset.sup_congr rfl fun r _ => hu r g
  unfold poolLate
  refine congrArg₂ Ideal.div ?_ ?_
  · rw [sum_bag]
    refine Finset.sum_congr rfl fun g _ => ?_
    rw [laneSum_apply]
    refine Finset.sum_congr rfl fun r _ => ?_
    rw [mulf_apply, expo_apply, turned_apply, hu, hz, ht]
    rfl
  · rw [sum_bag]
    refine Finset.sum_congr rfl fun g _ => ?_
    rw [laneSum_apply]
    refine Finset.sum_congr rfl fun r _ => ?_
    rw [expo_apply, hu, ht]
    rfl

end Cert.KernelIdeal.Value
-- ==== Proof.Array.lean ====
/- The kernel's arrays, for any float values: each input block as entries of the arguments, and the result buffer after
   the run as entries of what the last grid point stores. -/
module

public import proofs.«01_k».proof.Proof.Region
public import proofs.«01_k».proof.Proof.Pool
public import Idealize.ShloMosaic.Lib.Claim
public import Idealize.ShloMosaic.Lib.Pipeline.ValueKit

@[expose] public section

set_option maxRecDepth 16384

noncomputable section

namespace Cert.KernelIdeal.Array

open Idealize.ShloMosaic hiding ix2 ix3
open Idealize.ShloMosaic.TcCoe Idealize.ShloMosaic.Tactic
open Idealize.ShloMosaic.ValueIdx (ix2 ix3)
open Idealize.SL Idealize.SL.RA Idealize.SL.Sem
open Idealize.ShloMosaic.Pipeline (Dat Cfg Window)
open Cert.KernelIdeal.Gen Cert.KernelIdeal.Body Cert.KernelIdeal.Region

variable {F : FTy → Type} [FloatOps F]
variable (m : (ℓ : Loc nD τ sig) → Buf (Elt F) ℓ) (ρ : Dev nD → PrngReg)

/-! ## The arguments, as arrays -/

/-- The bags. -/
abbrev bags (c : Dev nD) : Vec F S16x4096x512 .f32 := m ((c.tc : Thread nD τ).loc main_arg0)
/-- The weights' means. -/
abbrev mu (c : Dev nD) : Vec F S1024x1 .f32 := m ((c.tc : Thread nD τ).loc main_arg1)
/-- The weights' log deviations. -/
abbrev logSigma (c : Dev nD) : Vec F S1024x1 .f32 := m ((c.tc : Thread nD τ).loc main_arg2)
/-- The noise. -/
abbrev noise (c : Dev nD) : Vec F S1024x1x8 .f32 := m ((c.tc : Thread nD τ).loc main_arg3)

/-! ## What the region finds -/

/-- The noise, its unit axis dropped. -/
theorem V_main_v0 (c : Dev nD) : V m c main_v0 = shapeCast S1024x8 (noise m c) shapeCasts_S1024x1x8_S1024x8 := by
  entry_read; try rfl
/-- The bags, eight instances packed to a row. -/
theorem V_main_v1 (c : Dev nD) : V m c main_v1 = shapeCast S16x512x4096 (bags m c) shapeCasts_S16x4096x512_S16x512x4096 := by
  entry_read; try rfl

/-! ## The input blocks -/

/-- The three parameter windows stay at the array's origin. -/
theorem origin_0 (a : Fin 2) : win0_0.index (pt 0) a = 0 := by revert a; decide +kernel
theorem origin_1 (a : Fin 2) : win0_1.index (pt 0) a = 0 := by revert a; decide +kernel
theorem origin_2 (a : Fin 2) : win0_2.index (pt 0) a = 0 := by revert a; decide +kernel
/-- The bags' window is at row `n` of the batch at grid point `n`. -/
theorem place_3 (n : Fin 16) : win0_3.index (pt n) 0 = n.val ∧ win0_3.index (pt n) 1 = 0 ∧ win0_3.index (pt n) 2 = 0 := by
  revert n; decide +kernel

/-- The first window's block is the whole array of means. -/
theorem iblk_mu (c : Dev nD) : iblk m c 0 (pt 0) = mu m c := by
  funext i
  unfold iblk
  rw [show V m c (Pipeline.arrRef spec0 0) = m ((c : Thread nD τ).loc main_arg1) from V_main_arg1 m c]
  have h0 := origin_0 0
  have h1 := origin_0 1
  blk_ext [h0, h1]
/-- The second window's block is the whole array of log deviations. -/
theorem iblk_logSigma (c : Dev nD) : iblk m c 1 (pt 0) = logSigma m c := by
  funext i
  unfold iblk
  rw [show V m c (Pipeline.arrRef spec0 1) = m ((c : Thread nD τ).loc main_arg2) from V_main_arg2 m c]
  have h0 := origin_1 0
  have h1 := origin_1 1
  blk_ext [h0, h1]
/-- The third window's block is the whole array of noise, its unit axis dropped. -/
theorem iblk_noise (c : Dev nD) (p : Fin 1024) (j : Fin 8) :
    (iblk m c 2 (pt 0) : Vec F S1024x8 .f32) (ix2 p j) = noise m c (ix3 p 0 j) := by
  have e : (iblk m c 2 (pt 0) : Vec F S1024x8 .f32) (ix2 p j) = (V m c main_v0 : Vec F S1024x8 .f32) (ix2 p j) := by
    unfold iblk
    have h0 := origin_2 0
    have h1 := origin_2 1
    blk_ext [h0, h1]
  rw [e, V_main_v0]
  refine shapeCast_apply _ _ _ _ ?_
  rw [Shape.rowMajor_val_two, Shape.rowMajor_val_three]
  show (p.val * 1 + 0) * 8 + j.val = p.val * 8 + j.val
  omega
/-- The bags' block at grid point `n`: packed row `r`, column `512 g + q` is feature `q` of instance `8 r + g`. -/
theorem iblk_bag (c : Dev nD) (n : Fin 16) (r : Fin 512) (g : Fin 8) (q : Fin 512) :
    (iblk m c 3 (pt n) : Vec F S1x512x4096 .f32) (ix3 0 r (Value.blk g q)) = bags m c (ix3 n (Value.bag r g) q) := by
  have e : (iblk m c 3 (pt n) : Vec F S1x512x4096 .f32) (ix3 0 r (Value.blk g q))
      = (V m c main_v1 : Vec F S16x512x4096 .f32) (ix3 n r (Value.blk g q)) := by
    unfold iblk
    obtain ⟨h0, h1, h2⟩ := place_3 n
    blk_ext [h0, h1, h2]
  rw [e, V_main_v1]
  refine shapeCast_apply _ _ _ _ ?_
  rw [Shape.rowMajor_val_three, Shape.rowMajor_val_three]
  show (n.val * 4096 + (8 * r.val + g.val)) * 512 + q.val = (n.val * 512 + r.val) * 4096 + (512 * g.val + q.val)
  omega

/-! ## The result -/

/-- The output array after the run: what the last point stored. -/
theorem out_array (c : Dev nD) : (dats m 0 c).arrAt 4 cfg0.N = result m c := by
  refine (dats m 0 c).arrAt_eq_of_after_last 4 (pt 15) (by decide +kernel) _ fun j => ?_
  rw [after_4]
  rfl

/-- The result buffer after the host lines that follow the region. -/
theorem result_buffer (c : Dev nD) : Pipeline.afterTail₀ cfgs (dats m) 0 (V0 m) [hostOps1] c main_v3
    = shapeCast S16x1x8 (result m c) shapeCasts_S16x8_S16x1x8 := by
  unfold Pipeline.afterTail₀
  rw [← out_array m c, ← Pipeline.withArrays_arr spec0 launch0.win.arr_inj c (V0 m c) (fun w => (dats m 0 c).arrAt w cfg0.N) 4]
  entry_read
  rfl

/-- The result buffer at an index. -/
theorem result_apply (c : Dev nD) (n : Fin 16) (j : Fin 8) :
    (Pipeline.afterTail₀ cfgs (dats m) 0 (V0 m) [hostOps1] c main_v3 : Vec F S16x1x8 .f32) (ix3 n 0 j) = result m c (ix2 n j) := by
  rw [result_buffer]
  refine shapeCast_apply _ _ _ _ ?_
  rw [Shape.rowMajor_val_three, Shape.rowMajor_val_two]
  show n.val * 8 + j.val = (n.val * 1 + 0) * 8 + j.val
  omega

/-- The whole program: the result buffer holds what the last point stored, the arguments are unchanged. -/
theorem run_result : θ_run defs (onTc (τ := τ) (main (F := F))) ⟨m, fun _ => 0, ρ⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).2 main_v3 (Pipeline.mem_restRefs_of main_v3 (by decide) (by decide)), h.2.1 c⟩)
    (θ_run_and (run m ρ) (frame_main m ρ))

end Cert.KernelIdeal.Array

end
-- ==== Proof.Standard.lean ====
/- The kernel's last step, read at an index over the extended reals: each pooled column standardised over the batch. -/
module

public import proofs.«01_k».proof.Proof.Pool

@[expose] public section

noncomputable section

namespace Cert.KernelIdeal.Value

open Idealize.ShloMosaic Idealize.ShloMosaic.ValueIdx
open Cert.KernelIdeal.Gen Cert.Mil
open scoped BigOperators

section Steps
variable (d : FVec Ideal S16x16 .f32)

/-- The sum of each column of the table. -/
def colSum : FVec Ideal S1x16 .f32 :=
  shapeCast S1x16 (multiReduction .add [0] S16 d 0x00000000#32 reduces_S16x16_S16 (.inl rfl) rfl) shapeCasts_S16_S1x16
/-- The table less its column means. -/
def centred : FVec Ideal S16x16 .f32 :=
  subf d (broadcastTo S16x16 (divf (colSum d) (broadcast S1x16 (Scalar.ofBits .f32 0x41800000#32))) broadcasts_S1x16_S16x16)
/-- The column variances. -/
def spread : FVec Ideal S1x16 .f32 :=
  divf (colSum (mulf (centred d) (centred d))) (broadcast S1x16 (Scalar.ofBits .f32 0x41700000#32))

theorem pay16_eq (b : FVec Ideal S1x8 .f32) : k0_pay16 b d = divf
    (mulf (broadcastTo S16x8 b broadcasts_S1x8_S16x8) (extractStridedSlice S16x8 ![0, 0] (centred d) slices_S16x16_o0_0_S16x8))
    (broadcastTo S16x8 (sqrt (extractStridedSlice S1x8 ![0, 0] (spread d) slices_S1x16_o0_0_S1x8)) broadcasts_S1x8_S16x8) := rfl

theorem colSum_apply (c : Fin 16) : colSum d (ix2 (0 : Fin 1) c) = ∑ n : Fin 16, d (ix2 n c) :=
  rowSum_apply d _ _ _ _ c

theorem centred_apply (n c : Fin 16) :
    centred d (ix2 n c) = d (ix2 n c) - mean fun k => d (ix2 k c) := by
  refine congrArg (d (ix2 n c) - ·) ((broadcastTo_apply _ broadcasts_S1x16_S16x16 (ix2 n c) (ix2 (0 : Fin 1) c) fun a => match a with
    | ⟨0, _⟩ => (if_pos rfl).symm
    | ⟨1, _⟩ => (if_neg (show ¬(16 : Nat) = 1 by decide)).symm).trans ?_)
  show Ideal.div (colSum d (ix2 (0 : Fin 1) c)) (Ideal.ofBits .f32 0x41800000#32) = _
  rw [bits_16, colSum_apply, mean]

theorem spread_apply (c : Fin 16) : spread d (ix2 (0 : Fin 1) c) = var fun k => d (ix2 k c) := by
  show Ideal.div (colSum (mulf (centred d) (centred d)) (ix2 (0 : Fin 1) c)) (Ideal.ofBits .f32 0x41700000#32) = _
  rw [bits_15, colSum_apply, var]
  refine congrArg (fun t => Ideal.div t 15) (Finset.sum_congr rfl fun n _ => ?_)
  rw [mulf_apply, centred_apply]

end Steps

/-- A one-row array laid over sixteen rows, read at an index. -/
theorem overRows_apply (v : FVec Ideal S1x8 .f32) (n : Fin 16) (j : Fin 8) :
    broadcastTo S16x8 v broadcasts_S1x8_S16x8 (ix2 n j) = v (ix2 (0 : Fin 1) j) :=
  broadcastTo_apply v broadcasts_S1x8_S16x8 (ix2 n j) (ix2 (0 : Fin 1) j) fun a => match a with
    | ⟨0, _⟩ => (if_pos rfl).symm
    | ⟨1, _⟩ => (if_neg (show ¬(8 : Nat) = 1 by decide)).symm

/-- What the last point stores: the table's attention columns, standardised over the batch and scaled. -/
theorem final_apply (x0 x1 : Vec Ideal S1024x1 .f32) (x2 : Vec Ideal S1024x8 .f32) (d : Vec Ideal S16x16 .f32)
    (n : Fin 16) (j : Fin 8) : Body.final x0 x1 x2 d (ix2 n j)
      = standard (scale (col x0) (col x1) (grid x2) j) (fun k => d (ix2 k (uCol j))) n := by
  unfold Body.final standard
  have e1 : extractStridedSlice S16x8 ![0, 0] (centred d) slices_S16x16_o0_0_S16x8 (ix2 n j) = centred d (ix2 n (uCol j)) :=
    extractStridedSlice_apply (s := S16x16) ![0, 0] _ _ (ix2 n j) (ix2 n (uCol j)) fun a => match a with
      | ⟨0, _⟩ => (Nat.zero_add _).symm
      | ⟨1, _⟩ => (Nat.zero_add _).symm
  have e2 : extractStridedSlice S1x8 ![0, 0] (spread d) slices_S1x16_o0_0_S1x8 (ix2 (0 : Fin 1) j) = spread d (ix2 (0 : Fin 1) (uCol j)) :=
    extractStridedSlice_apply (s := S1x16) ![0, 0] _ _ (ix2 (0 : Fin 1) j) (ix2 (0 : Fin 1) (uCol j)) fun a => match a with
      | ⟨0, _⟩ => (Nat.zero_add _).symm
      | ⟨1, _⟩ => (Nat.zero_add _).symm
  rw [pay16_eq, divf_apply, mulf_apply, overRows_apply, overRows_apply, e1, centred_apply, pay9_apply]
  show Ideal.div _ (Ideal.sqrt (extractStridedSlice S1x8 ![0, 0] (spread d) slices_S1x16_o0_0_S1x8 (ix2 (0 : Fin 1) j))) = _
  rw [e2, spread_apply]

end Cert.KernelIdeal.Value
-- ==== Proof.Reference.lean ====
/- What the reference computes, read at an index over the extended reals: the weight tables, the logits and values, the
   softmax pooling of each bag, and the standardisation over the batch. -/
module

public import proofs.«01_k».proof.Proof.Model
public import proofs.«01_k».proof.Proof.Gen.ReferenceIdeal.Read

@[expose] public section

noncomputable section

namespace Cert.ReferenceIdeal.Value

open Idealize.ShloMosaic Idealize.ShloMosaic.ValueIdx
open Cert.ReferenceIdeal Cert.ReferenceIdeal.Gen Cert.ReferenceIdeal.Read Cert.Mil
open scoped BigOperators

variable (x0 : (⟨S16x4096x512, .f32⟩ : BufTy).Contents (Elt Ideal)) (x1 x2 : (⟨S1024x1, .f32⟩ : BufTy).Contents (Elt Ideal))
  (x3 : (⟨S1024x1x8, .f32⟩ : BufTy).Contents (Elt Ideal))

/-- A parameter column as a plain function. -/
abbrev column (x : (⟨S1024x1, .f32⟩ : BufTy).Contents (Elt Ideal)) (p : Fin 1024) : EReal := x (ix2 p 0)
/-- The noise as a plain function. -/
abbrev draws (x : (⟨S1024x1x8, .f32⟩ : BufTy).Contents (Elt Ideal)) (p : Fin 1024) (j : Fin 8) : EReal := x (ix3 p 0 j)
/-- The bags as a plain function. -/
abbrev bags (x : (⟨S16x4096x512, .f32⟩ : BufTy).Contents (Elt Ideal)) (n : Fin 16) (i : Fin 4096) (q : Fin 512) : EReal := x (ix3 n i q)

/-! ## The weight tables -/

/-- The sampled parameters. -/
theorem beta_apply (p : Fin 1024) (j : Fin 8) :
    val_main_v6 (F := Ideal) x1 x2 x3 (ix3 p 0 j) = beta (column x1) (column x2) (draws x3) p j := by
  have e1 : idx_main_v0 (idx_main_v5 (ix3 p 0 j)) = ix2 p 0 := funext fun a => match a with
    | ⟨0, _⟩ => rfl
    | ⟨1, _⟩ => rfl
  have e2 : idx_main_v2 (idx_main_v3 (ix3 p 0 j)) = ix2 p 0 := funext fun a => match a with
    | ⟨0, _⟩ => rfl
    | ⟨1, _⟩ => rfl
  rw [val_main_v6_apply, val_main_v5_apply, val_main_v0_apply, val_main_v4_apply, val_main_v3_apply, val_main_v2_apply,
    val_main_v1_apply, e1, e2]
  rfl

/-- The attention's rows. -/
theorem betaLo_apply (q : Fin 512) (j : Fin 8) :
    val_main_v7 (F := Ideal) x1 x2 x3 (ix3 q 0 j) = beta (column x1) (column x2) (draws x3) (lo q) j := by
  rw [val_main_v7_apply, show idx_main_v7 (ix3 q 0 j) = ix3 (lo q) 0 j from funext fun a => match a with
    | ⟨0, _⟩ => rfl
    | ⟨1, _⟩ => rfl
    | ⟨2, _⟩ => rfl, beta_apply]

/-- The value's rows. -/
theorem betaHi_apply (q : Fin 512) (j : Fin 8) :
    val_main_v8 (F := Ideal) x1 x2 x3 (ix3 q 0 j) = beta (column x1) (column x2) (draws x3) (hi q) j := by
  rw [val_main_v8_apply, show idx_main_v8 (ix3 q 0 j) = ix3 (hi q) 0 j from funext fun a => match a with
    | ⟨0, _⟩ => rfl
    | ⟨1, _⟩ => rfl
    | ⟨2, _⟩ => rfl, beta_apply]

/-- The scale: the value rows' root mean square. -/
theorem scale_apply (j : Fin 8) :
    val_main_v14 (F := Ideal) x1 x2 x3 (ix3 0 0 j) = scale (column x1) (column x2) (draws x3) j := by
  rw [val_main_v14_apply, val_main_v13_apply, val_main_v11_apply, val_main_v10_apply, val_main_v12_apply, val_main_cst_0_apply,
    val_main_cst_apply]
  refine congrArg Ideal.sqrt (congrArg₂ Ideal.div ?_ bits_512)
  refine (congrArg (· + _) Ideal.ofBits_zero_f32).trans ((zero_add _).trans (Finset.sum_congr rfl fun k _ => ?_))
  rw [val_main_v9_apply, show idx_main_v10 (idx_main_v11 (ix3 0 0 j)) k = ix3 k 0 j from funext fun a => match a with
    | ⟨0, _⟩ => rfl
    | ⟨1, _⟩ => rfl
    | ⟨2, _⟩ => rfl, betaHi_apply]
  rfl

/-- The normalised value weights. -/
theorem eta_apply (q : Fin 512) (j : Fin 8) :
    val_main_v16 (F := Ideal) x1 x2 x3 (ix3 q 0 j) = eta (column x1) (column x2) (draws x3) q j := by
  rw [val_main_v16_apply, val_main_v15_apply, betaHi_apply, show idx_main_v15 (ix3 q 0 j) = ix3 0 0 j from funext fun a => match a with
    | ⟨0, _⟩ => rfl
    | ⟨1, _⟩ => rfl
    | ⟨2, _⟩ => rfl, scale_apply]
  rfl

/-! ## One bag -/

/-- The logits of bag `n`. -/
def logit (n : Fin 16) (j : Fin 8) (i : Fin 4096) : EReal :=
  proj (bags x0) (fun q j => beta (column x1) (column x2) (draws x3) (lo q) j) n i j
/-- The values of bag `n`. -/
def value (n : Fin 16) (j : Fin 8) (i : Fin 4096) : EReal :=
  proj (bags x0) (fun q j => eta (column x1) (column x2) (draws x3) q j) n i j

theorem logit_apply (n : Fin 16) (i : Fin 4096) (j : Fin 8) :
    val_main_v17 (F := Ideal) x0 x1 x2 x3 (ix4 n i 0 j) = logit x0 x1 x2 x3 n j i := by
  rw [val_main_v17_apply]
  unfold logit proj
  refine Finset.sum_congr rfl fun q _ => ?_
  rw [show lidx_main_v17 (ix4 n i 0 j) q = ix3 n i q from funext fun a => match a with
    | ⟨0, _⟩ => rfl
    | ⟨1, _⟩ => rfl
    | ⟨2, _⟩ => rfl, show ridx_main_v17 (ix4 n i 0 j) q = ix3 q 0 j from funext fun a => match a with
    | ⟨0, _⟩ => rfl
    | ⟨1, _⟩ => rfl
    | ⟨2, _⟩ => rfl, betaLo_apply]

theorem value_apply (n : Fin 16) (i : Fin 4096) (j : Fin 8) :
    val_main_v29 (F := Ideal) x0 x1 x2 x3 (ix4 n i 0 j) = value x0 x1 x2 x3 n j i := by
  rw [val_main_v29_apply]
  unfold value proj
  refine Finset.sum_congr rfl fun q _ => ?_
  rw [show lidx_main_v29 (ix4 n i 0 j) q = ix3 n i q from funext fun a => match a with
    | ⟨0, _⟩ => rfl
    | ⟨1, _⟩ => rfl
    | ⟨2, _⟩ => rfl, show ridx_main_v29 (ix4 n i 0 j) q = ix3 q 0 j from funext fun a => match a with
    | ⟨0, _⟩ => rfl
    | ⟨1, _⟩ => rfl
    | ⟨2, _⟩ => rfl, eta_apply]

/-- The reduction over a bag's instances keeps the other axes. -/
theorem reduces_bag : S16x4096x1x8.Reduces [1] S16x1x8 := by decide

/-- An instance's place in a bag's column. -/
theorem lift_bag (n : Fin 16) (j : Fin 8) (i : Fin 4096) : reduces_bag.lift (ix3 n 0 j) i = ix4 n i 0 j :=
  funext fun a => Fin.ext (match a with
    | ⟨0, _⟩ => rfl
    | ⟨1, _⟩ => rfl
    | ⟨2, _⟩ => rfl
    | ⟨3, _⟩ => rfl)

/-- The largest entry of a bag's column. -/
theorem foldMax_apply (y : FVec Ideal S16x4096x1x8 .f32) (n : Fin 16) (j : Fin 8) :
    Host.reduce FloatOps.maximumf y (val_main_cst_1 (F := Ideal)) reducesTo_S16x4096x1x8_S16x1x8_d1 h_S_ (ix3 n 0 j)
      = top fun i => y (ix4 n i 0 j) := by
  rw [Host.reduce_eq_fold_single FloatOps.maximumf y _ reducesTo_S16x4096x1x8_S16x1x8_d1 reduces_bag h_S_]
  have hf : (y ∘ reduces_bag.lift (ix3 n 0 j)) = fun i : Fin 4096 => y (ix4 n i 0 j) := funext fun i => congrArg y (lift_bag n j i)
  refine (congrArg (fun f => Finset.fold max (Ideal.ofBits .f32 0xFF800000#32) f (Finset.univ : Finset (Fin 4096))) hf).trans ?_
  rw [bits_bot]
  rfl

/-- The largest logit of a bag. -/
theorem max_apply (n : Fin 16) (j : Fin 8) :
    val_main_v18 (F := Ideal) x0 x1 x2 x3 (ix3 n 0 j) = top (logit x0 x1 x2 x3 n j) := by
  unfold val_main_v18
  rw [foldMax_apply]
  exact congrArg top (funext fun i => logit_apply x0 x1 x2 x3 n i j)

/-- The unnormalised attention weights. -/
theorem att_apply (n : Fin 16) (i : Fin 4096) (j : Fin 8) :
    val_main_v24 (F := Ideal) x0 x1 x2 x3 (ix4 n i 0 j) = att (logit x0 x1 x2 x3 n j) i := by
  rw [val_main_v24_apply, val_main_v23_apply, logit_apply, val_main_v22_apply, val_main_v21_apply, val_main_v20_apply,
    val_main_v19_apply, val_main_cst_2_apply,
    show idx_main_v21 (idx_main_v22 (ix4 n i 0 j)) = ix3 n 0 j from funext fun a => match a with
    | ⟨0, _⟩ => rfl
    | ⟨1, _⟩ => rfl
    | ⟨2, _⟩ => rfl, max_apply]
  show Ideal.exp (logit x0 x1 x2 x3 n j i - max (Ideal.ofBits .f32 0xFF800000#32) (top (logit x0 x1 x2 x3 n j))) = _
  rw [bits_bot, max_eq_right bot_le]
  rfl

/-- The pooled value of a bag. -/
def pooled (n : Fin 16) (j : Fin 8) : EReal := poolEarly (logit x0 x1 x2 x3 n j) (value x0 x1 x2 x3 n j)

theorem pooled_apply (n : Fin 16) (j : Fin 8) :
    val_main_v30 (F := Ideal) x0 x1 x2 x3 (ix3 n 0 j) = pooled x0 x1 x2 x3 n j := by
  rw [val_main_v30_apply]
  unfold pooled poolEarly
  refine Finset.sum_congr rfl fun i _ => ?_
  rw [show lidx_main_v30 (ix3 n 0 j) i = ix4 n i 0 j from funext fun a => match a with
    | ⟨0, _⟩ => rfl
    | ⟨1, _⟩ => rfl
    | ⟨2, _⟩ => rfl
    | ⟨3, _⟩ => rfl, show ridx_main_v30 (ix3 n 0 j) i = ix4 n i 0 j from funext fun a => match a with
    | ⟨0, _⟩ => rfl
    | ⟨1, _⟩ => rfl
    | ⟨2, _⟩ => rfl
    | ⟨3, _⟩ => rfl, value_apply, val_main_v28_apply, att_apply, val_main_v27_apply, val_main_v26_apply, val_main_v25_apply,
    val_main_cst_3_apply]
  refine congrArg (· * _) (congrArg (Ideal.div _) ?_)
  refine (congrArg (· + _) Ideal.ofBits_zero_f32).trans ((zero_add _).trans (Finset.sum_congr rfl fun k _ => ?_))
  rw [show idx_main_v25 (idx_main_v26 (idx_main_v27 (ix4 n i 0 j))) k = ix4 n k 0 j from funext fun a => match a with
    | ⟨0, _⟩ => rfl
    | ⟨1, _⟩ => rfl
    | ⟨2, _⟩ => rfl
    | ⟨3, _⟩ => rfl, att_apply]

/-! ## The batch -/

/-- The batch mean. -/
theorem mean_apply (j : Fin 8) :
    val_main_v33 (F := Ideal) x0 x1 x2 x3 (ix2 0 j) = mean fun n => pooled x0 x1 x2 x3 n j := by
  rw [val_main_v33_apply, val_main_v31_apply, val_main_v32_apply, val_main_cst_4_apply, val_main_cst_5_apply]
  refine congrArg₂ Ideal.div ?_ bits_16
  refine (congrArg (· + _) Ideal.ofBits_zero_f32).trans ((zero_add _).trans (Finset.sum_congr rfl fun k _ => ?_))
  rw [show idx_main_v31 (ix2 0 j) k = ix3 k 0 j from funext fun a => match a with
    | ⟨0, _⟩ => rfl
    | ⟨1, _⟩ => rfl
    | ⟨2, _⟩ => rfl, pooled_apply]

/-- The mean the variance is taken about. -/
theorem centre_apply (n : Fin 16) (j : Fin 8) :
    val_main_call0_call0_v4 (F := Ideal) x0 x1 x2 x3 (ix3 n 0 j) = mean fun n => pooled x0 x1 x2 x3 n j := by
  rw [val_main_call0_call0_v4_apply, val_main_call0_call0_v3_apply, val_main_call0_call0_v1_apply, val_main_call0_call0_v0_apply,
    val_main_call0_call0_v2_apply, val_main_call0_call0_cst_apply, val_main_call0_call0_cst_0_apply]
  refine congrArg₂ Ideal.div ?_ bits_16
  refine (congrArg (· + _) Ideal.ofBits_zero_f32).trans ((zero_add _).trans (Finset.sum_congr rfl fun k _ => ?_))
  rw [show idx_main_call0_call0_v0 (idx_main_call0_call0_v1 (idx_main_call0_call0_v4 (ix3 n 0 j))) k = ix3 k 0 j from funext fun a => match a with
    | ⟨0, _⟩ => rfl
    | ⟨1, _⟩ => rfl
    | ⟨2, _⟩ => rfl, pooled_apply]

/-- One degree of freedom off sixteen samples leaves fifteen. -/
theorem freedom_apply (i : S_.Idx) : val_main_call0_call0_v8 (F := Ideal) i = 15 := by
  rw [val_main_call0_call0_v8_apply, val_main_call0_call0_cst_1_apply, val_main_call0_call0_v7_apply, val_main_c_apply]
  show Ideal.ofBits .f32 0x41800000#32 - (((1#32 : BitVec 32).toInt : ℝ) : EReal) = 15
  rw [bits_16, show (16 : EReal) = ((16 : ℝ) : EReal) from rfl, show (15 : EReal) = ((15 : ℝ) : EReal) from rfl, ← EReal.coe_sub]
  exact congrArg _ (by rw [show (1#32 : BitVec 32).toInt = 1 from by decide]; norm_num)

/-- The batch variance, the guard against no freedom never taken. -/
theorem var_apply (j : Fin 8) :
    val_main_call0_v0 (F := Ideal) x0 x1 x2 x3 (ix2 0 j) = var fun n => pooled x0 x1 x2 x3 n j := by
  unfold val_main_call0_v0
  have hc : broadcastInDim S1x8 ![] bcast_S_S1x8 (val_main_call0_call0_v12 (F := Ideal)) (ix2 0 j) = 1#1 := by
    rw [broadcastInDim_apply _ bcast_S_S1x8 _ (ix2 0 j) (idx_main_call0_call0_v10 (ix2 0 j)) (fun a => a.elim0), val_main_call0_call0_v12_apply,
      freedom_apply, val_main_call0_call0_cst_3_apply]
    show BitVec.ofBool (decide (Ideal.ofBits .f32 0x00000000#32 < (15 : EReal))) = 1#1
    rw [Ideal.ofBits_zero_f32, decide_eq_true (by exact_mod_cast (by norm_num : (0 : ℝ) < 15))]
    rfl
  rw [select_apply, hc]
  refine (if_pos rfl).trans ?_
  rw [val_main_call0_call0_v11_apply, val_main_call0_call0_v9_apply, val_main_call0_call0_v10_apply, freedom_apply, val_main_call0_call0_cst_2_apply]
  refine congrArg (Ideal.div · 15) ?_
  refine (congrArg (· + _) Ideal.ofBits_zero_f32).trans ((zero_add _).trans (Finset.sum_congr rfl fun k _ => ?_))
  rw [show idx_main_call0_call0_v9 (ix2 0 j) k = ix3 k 0 j from funext fun a => match a with
    | ⟨0, _⟩ => rfl
    | ⟨1, _⟩ => rfl
    | ⟨2, _⟩ => rfl, val_main_call0_call0_v6_apply, val_main_call0_call0_v5_apply, pooled_apply, centre_apply]
  rfl

/-- The reference's result at an index. -/
theorem result_apply (n : Fin 16) (j : Fin 8) :
    val_main_v42 (F := Ideal) x0 x1 x2 x3 (ix3 n 0 j)
      = standard (scale (column x1) (column x2) (draws x3) j) (fun n => pooled x0 x1 x2 x3 n j) n := by
  rw [val_main_v42_apply, val_main_v39_apply, val_main_v38_apply, val_main_v37_apply, val_main_v36_apply, val_main_v35_apply,
    val_main_v41_apply, val_main_v40_apply, val_main_v34_apply, pooled_apply,
    show idx_main_v38 (ix3 n 0 j) = ix3 0 0 j from funext fun a => match a with
    | ⟨0, _⟩ => rfl
    | ⟨1, _⟩ => rfl
    | ⟨2, _⟩ => rfl, show idx_main_v35 (idx_main_v36 (ix3 n 0 j)) = ix2 0 j from funext fun a => match a with
    | ⟨0, _⟩ => rfl
    | ⟨1, _⟩ => rfl, show idx_main_v40 (idx_main_v41 (ix3 n 0 j)) = ix2 0 j from funext fun a => match a with
    | ⟨0, _⟩ => rfl
    | ⟨1, _⟩ => rfl, scale_apply, mean_apply, var_apply]
  rfl

end Cert.ReferenceIdeal.Value

end
-- ==== Proof.Softmax.lean ====
/- The softmax equation: where the largest logit is finite, dividing the weighted sum once (the kernel's order) and dividing
   each weight before the sum (the reference's order) give the same value, whatever the summed values are. Where it is not,
   every weight is zero, and both orders give an infinity unless all the values are zero. And the largest logit is finite
   where the entries it is made of are. Nothing here mentions a program. -/
module

public import proofs.«01_k».proof.Proof.Model

@[expose] public section

noncomputable section

namespace Cert.Mil

open Idealize.ShloMosaic
open scoped BigOperators

/-- An extended real that is a real number. -/
def Finite (x : EReal) : Prop := ∃ r : ℝ, x = (r : EReal)

theorem finite_of_ne {x : EReal} (h1 : x ≠ ⊤) (h2 : x ≠ ⊥) : Finite x := ⟨x.toReal, (EReal.coe_toReal h1 h2).symm⟩

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.mul {x y : EReal} (hx : Finite x) (hy : Finite y) : Finite (x * y) := by
  obtain ⟨a, rfl⟩ := hx
  obtain ⟨b, rfl⟩ := hy
  exact ⟨a * b, (EReal.coe_mul a b).symm⟩

/-- The exponential of anything below infinity is finite: at minus infinity it is zero. -/
theorem Finite.exp {x : EReal} (h : x ≠ ⊤) : Finite (Ideal.exp x) := by
  induction x using EReal.rec with
  | bot => exact ⟨0, by rw [Ideal.exp_bot]; rfl⟩
  | coe r => exact ⟨Real.exp r, rfl⟩
  | top => exact absurd rfl h

theorem Finite.sum {ι : Type} (s : Finset ι) (f : ι → EReal) (h : ∀ i ∈ s, Finite (f i)) : Finite (∑ i ∈ s, f i) := by
  classical
  induction s using Finset.induction_on with
  | empty => exact ⟨0, by rw [Finset.sum_empty]; rfl⟩
  | insert a s ha ih =>
    rw [Finset.sum_insert ha]
    exact (h a (Finset.mem_insert_self a s)).add (ih fun i hi => h i (Finset.mem_insert_of_mem hi))

theorem not_finite_bot : ¬ Finite ⊥ := fun ⟨r, h⟩ => EReal.coe_ne_bot r h.symm
theorem not_finite_top : ¬ Finite ⊤ := fun ⟨r, h⟩ => EReal.coe_ne_top r h.symm

/-- The terms of a finite sum of two are finite: an infinite term is not cancelled. -/
theorem Finite.of_add {x y : EReal} (h : Finite (x + y)) : Finite x ∧ Finite y := by
  induction x using EReal.rec with
  | bot => rw [EReal.bot_add] at h; exact absurd h not_finite_bot
  | coe a =>
    induction y using EReal.rec with
    | bot => rw [EReal.add_bot] at h; exact absurd h not_finite_bot
    | coe b => exact ⟨⟨a, rfl⟩, ⟨b, rfl⟩⟩
    | top => rw [EReal.coe_add_top] at h; exact absurd h not_finite_top
  | top =>
    induction y using EReal.rec with
    | bot => rw [EReal.add_bot] at h; exact absurd h not_finite_bot
    | coe b => rw [EReal.top_add_coe] at h; exact absurd h not_finite_top
    | top => rw [EReal.top_add_top] at h; exact absurd h not_finite_top

/-- Every term of a finite sum is finite. -/
theorem Finite.of_sum {ι : Type} (s : Finset ι) (f : ι → EReal) (h : Finite (∑ i ∈ s, f i)) : ∀ i ∈ s, Finite (f i) := by
  classical
  induction s using Finset.induction_on with
  | empty => exact fun i hi => absurd hi (Finset.notMem_empty i)
  | insert a s ha ih =>
    rw [Finset.sum_insert ha] at h
    obtain ⟨h1, h2⟩ := h.of_add
    intro i hi
    rcases Finset.mem_insert.mp hi with rfl | hi
    · exact h1
    · exact ih h2 i hi

/-- Minus infinity times anything but zero is infinite. -/
theorem bot_mul_infinite {x : EReal} (hx : x ≠ 0) : ¬ Finite (⊥ * x) := by
  rcases lt_or_gt_of_ne hx with h | h
  · rw [EReal.bot_mul_of_neg h]; exact not_finite_top
  · rw [EReal.bot_mul_of_pos h]; exact not_finite_bot

/-- A sampled parameter is finite where its mean and noise are, and its log deviation is below infinity. -/
theorem finite_beta (mu ls : Fin 1024 → EReal) (ep : Fin 1024 → Fin 8 → EReal) (p : Fin 1024) (j : Fin 8)
    (hm : Finite (mu p)) (hl : ls p ≠ ⊤) (he : Finite (ep p j)) : Finite (beta mu ls ep p j) :=
  hm.add ((Finite.exp hl).mul he)

/-- A product of finite rows is finite. -/
theorem finite_proj (X : Fin 16 → Fin 4096 → Fin 512 → EReal) (w : Fin 512 → Fin 8 → EReal) (n : Fin 16) (i : Fin 4096) (j : Fin 8)
    (hX : ∀ q, Finite (X n i q)) (hw : ∀ q, Finite (w q j)) : Finite (proj X w n i j) :=
  Finite.sum _ _ fun q _ => (hX q).mul (hw q)

/-- A nonnegative real factor moves into a sum of extended reals, infinite terms included. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hc) (EReal.coe_ne_top c) _ _

variable (u z : Fin 4096 → EReal)

/-- The largest of finite logits is finite. -/
theorem finite_top (hu : ∀ i, Finite (u i)) : Finite (top u) := by
  obtain ⟨i, _, hi⟩ := Finset.exists_mem_eq_sup Finset.univ ⟨(0 : Fin 4096), Finset.mem_univ _⟩ u
  unfold top
  rw [hi]
  exact hu i

/-- The weights are nonnegative reals where the largest logit is finite: a logit of minus infinity weighs zero. -/
theorem att_real (ht : Finite (top u)) : ∃ e : Fin 4096 → ℝ, (∀ i, 0 ≤ e i) ∧ ∀ i, att u i = (e i : EReal) := by
  obtain ⟨t, ht⟩ := ht
  have h : ∀ i, ∃ e : ℝ, 0 ≤ e ∧ att u i = (e : EReal) := fun i => by
    have hi : u i ≤ (t : EReal) := by rw [← ht]; exact Finset.le_sup (Finset.mem_univ i)
    unfold att
    rw [ht]
    generalize u i = x at hi ⊢
    induction x using EReal.rec with
    | bot => exact ⟨0, le_rfl, by rw [EReal.bot_sub, Ideal.exp_bot]; rfl⟩
    | coe r => exact ⟨Real.exp (r - t), (Real.exp_pos _).le, by rw [← EReal.coe_sub]; rfl⟩
    | top => exact absurd (top_le_iff.mp hi) (EReal.coe_ne_top t)
  choose e he h using h
  exact ⟨e, he, h⟩

/-- The largest logit's own weight is one where it is finite. -/
theorem att_top (ht : Finite (top u)) : ∃ i, att u i = 1 := by
  obtain ⟨i, _, hi⟩ := Finset.exists_mem_eq_sup Finset.univ ⟨(0 : Fin 4096), Finset.mem_univ _⟩ u
  obtain ⟨t, ht⟩ := ht
  have hu : u i = (t : EReal) := by rw [← hi]; exact ht
  refine ⟨i, ?_⟩
  unfold att
  rw [hu, ht, ← EReal.coe_sub, sub_self]
  exact (congrArg (fun r : ℝ => (r : EReal)) Real.exp_zero)

/-- The weights' sum is a positive real where the largest logit is finite. -/
theorem total_real (ht : Finite (top u)) : ∃ d : ℝ, 0 < d ∧ ∑ i, att u i = (d : EReal) := by
  obtain ⟨e, he, h⟩ := att_real u ht
  obtain ⟨k, hk⟩ := att_top u ht
  refine ⟨∑ i, e i, Finset.sum_pos' (fun i _ => he i) ⟨k, Finset.mem_univ _, ?_⟩, ?_⟩
  · have : (e k : EReal) = ((1 : ℝ) : EReal) := (h k).symm.trans hk
    rw [EReal.coe_injective this]
    exact one_pos
  rw [Finset.sum_congr rfl fun i _ => h i]
  exact (map_sum (⟨⟨fun r : ℝ => (r : EReal), EReal.coe_zero⟩, EReal.coe_add⟩ : ℝ →+ EReal) e Finset.univ).symm

/-- The two orders of the softmax's division agree where the largest logit is finite. -/
theorem poolLate_eq_poolEarly (ht : Finite (top u)) : poolLate u z = poolEarly u z := by
  obtain ⟨d, hd, h⟩ := total_real u ht
  unfold poolLate poolEarly
  rw [h, Ideal.div_coe hd.ne', sum_mul_real _ _ _ (one_div_pos.mpr hd).le]
  refine Finset.sum_congr rfl fun i _ => ?_
  rw [Ideal.div_coe hd.ne', mul_right_comm]

/-! ## An infinite largest logit -/

/-- Every weight is zero where the largest logit is infinite. -/
theorem att_zero (ht : ¬ Finite (top u)) (i : Fin 4096) : att u i = 0 := by
  have hi : u i ≤ top u := Finset.le_sup (Finset.mem_univ i)
  unfold att
  generalize top u = t at ht hi
  induction t using EReal.rec with
  | bot => rw [le_bot_iff.mp hi, EReal.bot_sub, Ideal.exp_bot]
  | coe r => exact absurd ⟨r, rfl⟩ ht
  | top => rw [EReal.sub_top, Ideal.exp_bot]

/-- Nought divided by nought is minus infinity. -/
theorem div_zero_zero : Ideal.div 0 0 = ⊥ := by
  unfold Ideal.div
  rw [if_pos rfl, if_neg (lt_irrefl _)]

/-- The kernel's pooling of a bag whose largest logit is infinite. -/
theorem poolLate_bot (ht : ¬ Finite (top u)) : poolLate u z = ⊥ := by
  unfold poolLate
  rw [Finset.sum_eq_zero fun i _ => by rw [att_zero u ht i, zero_mul], Finset.sum_eq_zero fun i _ => att_zero u ht i,
    div_zero_zero]

/-- The reference's pooling of such a bag is infinite, if one of its values is not zero. -/
theorem poolEarly_infinite (ht : ¬ Finite (top u)) (hz : ∃ i, z i ≠ 0) : ¬ Finite (poolEarly u z) := by
  obtain ⟨i, hi⟩ := hz
  unfold poolEarly
  intro h
  have := Finite.of_sum _ _ h i (Finset.mem_univ i)
  rw [Finset.sum_eq_zero fun i _ => att_zero u ht i, att_zero u ht i, div_zero_zero] at this
  exact bot_mul_infinite hi this

/-! ## The batch -/

variable (b : EReal) (p p' : Fin 16 → EReal)

/-- The mean of a batch with an infinite entry is infinite. -/
theorem mean_infinite (h : ∃ n, ¬ Finite (p n)) : ¬ Finite (mean p) := by
  obtain ⟨n, hn⟩ := h
  intro hm
  refine hn (Finite.of_sum _ _ (?_ : Finite (∑ n, p n)) n (Finset.mem_univ n))
  unfold mean at hm
  rw [show (16 : EReal) = ((16 : ℝ) : EReal) from rfl, Ideal.div_coe (by norm_num)] at hm
  generalize ∑ n, p n = x at hm ⊢
  induction x using EReal.rec with
  | bot => rw [EReal.bot_mul_coe_of_pos (by norm_num)] at hm; exact absurd hm not_finite_bot
  | coe r => exact ⟨r, rfl⟩
  | top => rw [EReal.top_mul_coe_of_pos (by norm_num)] at hm; exact absurd hm not_finite_top

/-- The variance of a batch with an infinite entry is infinite. -/
theorem var_top (h : ∃ n, ¬ Finite (p n)) : var p = ⊤ := by
  have hs : ∀ n, (p n - mean p) * (p n - mean p) = ⊤ := fun n => by
    have hm := mean_infinite p h
    generalize mean p = m at hm
    generalize p n = x
    induction m using EReal.rec with
    | bot =>
      induction x using EReal.rec with
      | bot => rw [EReal.bot_sub, EReal.bot_mul_bot]
      | coe r => rw [EReal.coe_sub_bot, EReal.top_mul_top]
      | top => rw [EReal.top_sub_bot, EReal.top_mul_top]
    | coe r => exact absurd ⟨r, rfl⟩ hm
    | top => rw [EReal.sub_top, EReal.bot_mul_bot]
  have ht : ∑ n : Fin 16, (p n - mean p) * (p n - mean p) = ⊤ := by
    have h0 : 0 ≤ ∑ n : Fin 16, (p n - mean p) * (p n - mean p) := Finset.sum_nonneg fun n _ => by rw [hs n]; exact le_top
    have hf : ¬ Finite (∑ n : Fin 16, (p n - mean p) * (p n - mean p)) := fun hf =>
      not_finite_top (hs 0 ▸ Finite.of_sum _ _ hf 0 (Finset.mem_univ 0))
    by_contra hne
    exact hf (finite_of_ne hne fun e => absurd (e ▸ h0) (not_le.mpr EReal.bot_lt_zero))
  unfold var
  rw [ht, show (15 : EReal) = ((15 : ℝ) : EReal) from rfl, Ideal.div_coe (by norm_num), EReal.top_mul_coe_of_pos (by norm_num)]

/-- A batch with an infinite entry standardises to zero throughout: the deviation is infinite. -/
theorem standard_zero (h : ∃ n, ¬ Finite (p n)) (n : Fin 16) : standard b p n = 0 := by
  unfold standard
  rw [var_top p h, Ideal.sqrt_top]
  unfold Ideal.div
  rw [if_neg EReal.top_ne_zero, EReal.inv_top, mul_zero]

/-- The two orders of the softmax's division give the same standardised batch, if every bag has a finite largest logit or
    a value that is not zero. -/
theorem standard_pool (u z : Fin 16 → Fin 4096 → EReal) (h : ∀ n, Finite (top (u n)) ∨ ∃ i, z n i ≠ 0) (n : Fin 16) :
    standard b (fun n => poolLate (u n) (z n)) n = standard b (fun n => poolEarly (u n) (z n)) n := by
  by_cases ht : ∀ n, Finite (top (u n))
  · exact congrArg (fun p => standard b p n) (funext fun k => poolLate_eq_poolEarly _ _ (ht k))
  · obtain ⟨k, hk⟩ := not_forall.mp ht
    rw [standard_zero b _ ⟨k, by rw [poolLate_bot _ _ hk]; exact not_finite_bot⟩,
      standard_zero b _ ⟨k, poolEarly_infinite _ _ hk ((h k).resolve_left hk)⟩]

end Cert.Mil

end
-- ==== Proof.Void.lean ====
/- What the precondition says, in the reference's logits and values: for every bag and draw the largest logit is finite or
   some value is not zero. And it holds wherever the entries the logits are made of are finite. -/
module

public import proofs.«01_k».proof.Proof.Softmax
public import proofs.«01_k».proof.Proof.Reference
public import proofs.«01_k».proof.Proof.Gen.Pre_no_void_bag
public import Idealize.ShloMosaic.Lib.ReduceAll
public import Idealize.ShloMosaic.Lib.ValueIdx
public import Idealize.ShloMosaic.Lib.Pipeline.Value
public import Idealize.ShloMosaic.PureOps.Ideal.Laws

@[expose] public section

noncomputable section

namespace Cert.Pre_no_void_bag.Value

open Idealize.ShloMosaic Idealize.ShloMosaic.ValueIdx
open Cert.Pre_no_void_bag Cert.Pre_no_void_bag.Gen Cert.Mil
open Cert.ReferenceIdeal.Read Cert.ReferenceIdeal.Value

/-- A magnitude is below infinity exactly when the number is finite. -/
theorem abs_lt_top (x : EReal) : max x (-x) < ⊤ ↔ Finite x := by
  induction x using EReal.rec with
  | bot => exact iff_of_false (by rw [EReal.neg_bot, max_eq_right bot_le]; exact lt_irrefl _) not_finite_bot
  | coe r => exact iff_of_true (max_lt (EReal.coe_lt_top r) (EReal.coe_neg r ▸ EReal.coe_lt_top (-r))) ⟨r, rfl⟩
  | top => exact iff_of_false (by rw [max_eq_left le_top]; exact lt_irrefl _) not_finite_top

/-- A magnitude is positive exactly when the number is not zero. -/
theorem abs_pos (x : EReal) : 0 < max x (-x) ↔ x ≠ 0 := by
  rw [lt_max_iff, ne_iff_lt_or_gt, or_comm]
  exact or_congr_left ⟨fun h => EReal.lt_neg_comm.mp h |>.trans_eq neg_zero, fun h => EReal.lt_neg_comm.mpr (h.trans_eq neg_zero.symm)⟩

/-- The largest magnitude is positive exactly when some number is not zero. -/
theorem top_abs_pos (z : Fin 4096 → EReal) : 0 < top (fun i => max (z i) (-z i)) ↔ ∃ i, z i ≠ 0 := by
  unfold top
  rw [Finset.lt_sup_iff]
  exact ⟨fun ⟨i, _, h⟩ => ⟨i, (abs_pos _).mp h⟩, fun ⟨i, h⟩ => ⟨i, Finset.mem_univ i, (abs_pos _).mpr h⟩⟩

/-- A literal spread over the batch and draws, read at an index. -/
theorem lit_apply (v : BitVec 32) (i : S16x1x8.Idx) :
    broadcastInDim S16x1x8 ![] bcast_S_S16x1x8 (constant (F := Ideal) S_ .f32 v) i = Ideal.ofBits .f32 v :=
  broadcastInDim_apply _ bcast_S_S16x1x8 _ i (fun a => a.elim0) (fun a => a.elim0)

/-- Two decided flags joined by "or". -/
theorem or_flags (a b : Prop) [Decidable a] [Decidable b] :
    IntOp.ori (BitVec.ofBool (decide a)) (BitVec.ofBool (decide b)) = 1#1 ↔ a ∨ b := by
  by_cases ha : a <;> by_cases hb : b <;> simp [ha, hb] <;> decide

variable (x0 : FVec Ideal S16x4096x512 .f32) (x1 x2 : FVec Ideal S1024x1 .f32) (x3 : FVec Ideal S1024x1x8 .f32)

/-- The two comparisons at an index. -/
theorem compare_apply (a b : FVec Ideal S16x1x8 .f32) (k : S16x1x8.Idx) :
    ori (cmpf .olt (Host.absf a) (broadcastInDim S16x1x8 ![] bcast_S_S16x1x8 (constant (F := Ideal) S_ .f32 0x7F800000#32)))
      (cmpf .ogt b (broadcastInDim S16x1x8 ![] bcast_S_S16x1x8 (constant (F := Ideal) S_ .f32 0x00000000#32))) k = 1#1
      ↔ Finite (a k) ∨ (0 : EReal) < b k := by
  have e1 := lit_apply 0x7F800000#32 k
  have e2 := lit_apply 0x00000000#32 k
  rw [bits_top] at e1
  rw [Ideal.ofBits_zero_f32] at e2
  generalize broadcastInDim S16x1x8 ![] bcast_S_S16x1x8 (constant (F := Ideal) S_ .f32 0x7F800000#32) = c at e1 ⊢
  generalize broadcastInDim S16x1x8 ![] bcast_S_S16x1x8 (constant (F := Ideal) S_ .f32 0x00000000#32) = d at e2 ⊢
  show IntOp.ori (BitVec.ofBool (decide ((max (a k) (-a k) : EReal) < c k))) (BitVec.ofBool (decide ((d k : EReal) < b k))) = 1#1 ↔ _
  rw [e1, e2, or_flags, abs_lt_top]

/-- One bag's flag for one draw: it is not void. -/
theorem flag_apply (y z : FVec Ideal S16x4096x1x8 .f32) (n : Fin 16) (j : Fin 8) :
    ori (cmpf .olt (Host.absf (Host.reduce FloatOps.maximumf y (val_main_cst_1 (F := Ideal)) reducesTo_S16x4096x1x8_S16x1x8_d1 h_S_))
        (broadcastInDim S16x1x8 ![] bcast_S_S16x1x8 (constant (F := Ideal) S_ .f32 0x7F800000#32)))
      (cmpf .ogt (Host.reduce FloatOps.maximumf (Host.absf z) (val_main_cst_1 (F := Ideal)) reducesTo_S16x4096x1x8_S16x1x8_d1 h_S_)
        (broadcastInDim S16x1x8 ![] bcast_S_S16x1x8 (constant (F := Ideal) S_ .f32 0x00000000#32))) (ix3 n 0 j) = 1#1
      ↔ Finite (top fun i => y (ix4 n i 0 j)) ∨ ∃ i, z (ix4 n i 0 j) ≠ 0 := by
  refine (compare_apply _ _ _).trans ?_
  rw [foldMax_apply y n j, foldMax_apply (Host.absf z) n j]
  exact or_congr_right (top_abs_pos fun i => z (ix4 n i 0 j))

/-- The precondition is the conjunction of every bag's flag for every draw, over the reference's logits and values. -/
theorem fn_eq : fn (F := Ideal) x0 x1 x2 x3 = fn_part1 (F := Ideal) (val_main_v29 (F := Ideal) x0 x1 x2 x3)
    (Host.absf (val_main_v18 (F := Ideal) x0 x1 x2 x3)) := rfl

/-- The precondition: no bag is void for any draw. -/
theorem holds_iff : (∀ i, fn (F := Ideal) x0 x1 x2 x3 i = 1#1)
    ↔ ∀ (n : Fin 16) (j : Fin 8), Finite (top (logit x0 x1 x2 x3 n j)) ∨ ∃ i, value x0 x1 x2 x3 n j i ≠ 0 := by
  haveI : Subsingleton S_.Idx := ⟨fun a b => funext fun k => k.elim0⟩
  have e (n : Fin 16) (j : Fin 8) := flag_apply (val_main_v17 (F := Ideal) x0 x1 x2 x3) (val_main_v29 (F := Ideal) x0 x1 x2 x3) n j
  simp only [logit_apply, value_apply] at e
  rw [fn_eq]
  unfold fn_part1
  constructor
  · intro h n j
    exact (e n j).mp (Host.reduce_andi_all _ _ _ _ _ (h ix0) (ix3 n 0 j))
  · intro h i
    refine Host.reduce_andi_one _ _ _ _ _ rfl fun y => ?_
    have ey : y = ix3 (y 0 : Fin 16) (0 : Fin 1) (y 2 : Fin 8) := (eq_ix3 y).trans
      (congrArg (fun k : Fin 1 => ix3 (y 0 : Fin 16) k (y 2 : Fin 8)) (Subsingleton.elim (α := Fin 1) _ _))
    rw [ey]
    exact (e (y 0) (y 2)).mpr (h (y 0) (y 2))

/-- The precondition holds where the bags are finite and, in the first half of the parameters, the means and the noise are
    finite and the log deviations below infinity. -/
theorem holds_of_finite (h0 : ∀ i, Finite (x0 i)) (h1 : ∀ q : Fin 512, Finite (x1 (ix2 (lo q) 0)))
    (h2 : ∀ q : Fin 512, x2 (ix2 (lo q) 0) ≠ ⊤) (h3 : ∀ (q : Fin 512) (j : Fin 8), Finite (x3 (ix3 (lo q) 0 j))) :
    ∀ i, fn (F := Ideal) x0 x1 x2 x3 i = 1#1 :=
  (holds_iff x0 x1 x2 x3).mpr fun n j => Or.inl (finite_top _ fun i =>
    finite_proj _ _ n i j (fun _ => h0 _) fun q => finite_beta _ _ _ (lo q) j (h1 q) (h2 q) (h3 q j))

end Cert.Pre_no_void_bag.Value

end
-- ==== Proof.Equation.lean ====
/- The two programs' results are the same array, wherever the precondition holds: each is the standardised pooling of the
   same logits and values, the kernel dividing after the sum and the reference before it. -/
module

public import proofs.«01_k».proof.Defs
public import proofs.«01_k».proof.Proof.Array
public import proofs.«01_k».proof.Proof.Standard
public import proofs.«01_k».proof.Proof.Reference
public import proofs.«01_k».proof.Proof.Void

@[expose] public section

noncomputable section

namespace Cert.Equation

open Idealize.ShloMosaic hiding ix2 ix3 eq_ix3
open Idealize.ShloMosaic.TcCoe
open Idealize.ShloMosaic.ValueIdx (ix2 ix3 eq_ix3)
open Idealize.SL.Sem
open Cert.Mil

/-- Two result arrays that agree at every batch row and draw are equal. -/
theorem ext_result (f g : Vec Ideal Cert.KernelIdeal.S16x1x8 .f32) (h : ∀ (n : Fin 16) (j : Fin 8), f (ix3 n 0 j) = g (ix3 n 0 j)) :
    f = g := by
  funext y
  have e : y = ix3 (y 0 : Fin 16) (0 : Fin 1) (y 2 : Fin 8) := (eq_ix3 y).trans
    (congrArg (fun k : Fin 1 => ix3 (y 0 : Fin 16) k (y 2 : Fin 8)) (Subsingleton.elim (α := Fin 1) _ _))
  rw [e]
  exact h _ _

section Kernel
open Cert.KernelIdeal Cert.KernelIdeal.Gen Cert.KernelIdeal.Region Cert.KernelIdeal.Array

variable (m : (ℓ : Loc nD τ sig) → Buf (Elt Ideal) ℓ) (c : Dev nD)

/-- The parameters the kernel is given, as plain functions. -/
theorem params : Value.col (iblk m c 0 (pt 0)) = ReferenceIdeal.Value.column (mu m c)
    ∧ Value.col (iblk m c 1 (pt 0)) = ReferenceIdeal.Value.column (logSigma m c)
    ∧ Value.grid (iblk m c 2 (pt 0)) = ReferenceIdeal.Value.draws (noise m c) := by
  refine ⟨?_, ?_, ?_⟩
  · rw [iblk_mu]; rfl
  · rw [iblk_logSigma]; rfl
  · funext p j
    exact iblk_noise m c p j

/-- The logits and values of the kernel's arguments. -/
abbrev logit (n : Fin 16) (j : Fin 8) : Fin 4096 → EReal :=
  ReferenceIdeal.Value.logit (Array.bags m c) (mu m c) (logSigma m c) (noise m c) n j
abbrev value (n : Fin 16) (j : Fin 8) : Fin 4096 → EReal :=
  ReferenceIdeal.Value.value (Array.bags m c) (mu m c) (logSigma m c) (noise m c) n j

/-- The kernel's table: each bag pooled, divided after the sum. -/
theorem table_apply (n : Fin 16) (j : Fin 8) :
    table m c (ix2 n (Value.uCol j)) = poolLate (logit m c n j) (value m c n j) := by
  obtain ⟨e0, e1, e2⟩ := params m c
  have h := Value.pooled_apply (iblk m c 3 (pt n)) (iblk m c 0 (pt 0)) (iblk m c 1 (pt 0)) (iblk m c 2 (pt 0))
    (fun i q => Array.bags m c (ix3 n i q)) (fun r g q => iblk_bag m c n r g q) j
  rw [e0, e1, e2] at h
  exact h

/-- The kernel's result at an index. -/
theorem kernel_apply (n : Fin 16) (j : Fin 8) :
    (Pipeline.afterTail₀ cfgs (dats m) 0 (V0 m) [hostOps1] c main_v3 : Vec Ideal S16x1x8 .f32) (ix3 n 0 j)
      = standard (scale (ReferenceIdeal.Value.column (mu m c)) (ReferenceIdeal.Value.column (logSigma m c))
          (ReferenceIdeal.Value.draws (noise m c)) j) (fun n => poolLate (logit m c n j) (value m c n j)) n := by
  obtain ⟨e0, e1, e2⟩ := params m c
  rw [Array.result_apply]
  unfold result
  rw [Value.final_apply, e0, e1, e2]
  exact congrArg (fun p => standard _ p n) (funext fun k => table_apply m c k j)

/-- The two results are equal. -/
theorem result_eq (h : ∀ i, Cert.Pre_no_void_bag.fn (F := Ideal) (Array.bags m c) (mu m c) (logSigma m c) (noise m c) i = 1#1) :
    (Pipeline.afterTail₀ cfgs (dats m) 0 (V0 m) [hostOps1] c main_v3 : Vec Ideal S16x1x8 .f32)
      = Cert.ReferenceIdeal.Read.val_main_v42 (F := Ideal) (Array.bags m c) (mu m c) (logSigma m c) (noise m c) := by
  refine ext_result _ _ fun n j => ?_
  refine (kernel_apply m c n j).trans (Eq.trans ?_ (Cert.ReferenceIdeal.Value.result_apply _ _ _ _ n j).symm)
  exact standard_pool _ (fun k => logit m c k j) (fun k => value m c k j)
    (fun k => (Cert.Pre_no_void_bag.Value.holds_iff _ _ _ _).mp h k j) n

end Kernel

/-- The value claim: from memories agreeing on the arguments, the precondition holding, both programs run and end with
    equal results and their arguments unchanged. -/
theorem algebraic : Cert.algebraic_KernelIdeal_ReferenceIdeal_pre_no_void_bag := by
  intro m g m' g' hpre hargs
  refine ⟨fun c => Pipeline.afterTail₀ Cert.KernelIdeal.cfgs (Cert.KernelIdeal.Region.dats m) 0 (Cert.KernelIdeal.Gen.V0 m)
    [Cert.KernelIdeal.Gen.hostOps1] c Cert.KernelIdeal.main_v3, Cert.KernelIdeal.Array.run_result m g, ?_⟩
  refine (θ_run Cert.ReferenceIdeal.defs _ _).mono (fun _ h c => ⟨(h c).1.trans ?_, (h c).2⟩) (Cert.ReferenceIdeal.Value.run m' g')
  obtain ⟨a0, a1, a2, a3⟩ := hargs c
  rw [Cert.ReferenceIdeal.Read.val_main_v42_eq, a0, a1, a2, a3]
  exact (result_eq m c fun i => congrFun (hpre c) i).symm

end Cert.Equation

end
-- ==== Proof.lean ====
/- The assembly of the certificate's claims. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_void_bag
public import proofs.«01_k».proof.Proof.Frames
public import proofs.«01_k».proof.Proof.Equation
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_no_void_bag.Gen.facts,
  Cert.Frames.kernel, Cert.Frames.kernelIdeal, fun m g _ => Cert.Frames.kernelIdeal m g trivial, Cert.Frames.referenceIdeal,
  fun m g _ => Cert.Frames.referenceIdeal m g trivial, trivial, Cert.Equation.algebraic⟩

end Cert.Proof

end
